-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebooks_finite [hPre_codebooks_finite : Cert.Pre_codebooks_finite.Facts] (m : (ℓ : Loc Cert.KernelIdeal.nD Cert.KernelIdeal.τ Cert.KernelIdeal.sig) → Buf (Elt Ideal) ℓ) : Prop :=
  ∀ c : Dev Cert.KernelIdeal.nD,
    (Cert.Pre_codebooks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebooks_finite [hPre_codebooks_finite : Cert.Pre_codebooks_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebooks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_codebooks_finite [hKernelIdeal : Cert.KernelIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebooks_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_codebooks_finite [hReferenceIdeal : Cert.ReferenceIdeal.Facts] [hPre_codebooks_finite : Cert.Pre_codebooks_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebooks_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  IdealRules.bf16_pack.Statement Cert.KernelIdeal.S4x1024x256

def algebraic_KernelIdeal_ReferenceIdeal_pre_codebooks_finite [hKernelIdeal : Cert.KernelIdeal.Facts] [hReferenceIdeal : Cert.ReferenceIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebooks_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)) (v5 : (c : Dev Cert.KernelIdeal.nD) → Buf (Elt Ideal) ((c.tc : Thread Cert.KernelIdeal.nD Cert.KernelIdeal.τ).loc Cert.KernelIdeal.main_v16_5)) (v6 : (c : Dev Cert.KernelIdeal.nD) → Buf (Elt Ideal) ((c.tc : Thread Cert.KernelIdeal.nD Cert.KernelIdeal.τ).loc Cert.KernelIdeal.main_v16_6)) (v7 : (c : Dev Cert.KernelIdeal.nD) → Buf (Elt Ideal) ((c.tc : Thread Cert.KernelIdeal.nD Cert.KernelIdeal.τ).loc Cert.KernelIdeal.main_v16_7)) (v8 : (c : Dev Cert.KernelIdeal.nD) → Buf (Elt Ideal) ((c.tc : Thread Cert.KernelIdeal.nD Cert.KernelIdeal.τ).loc Cert.KernelIdeal.main_v16_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_v16_5) = v5 c
          ∧ r.2.mem ((c.tc : Thread Cert.KernelIdeal.nD Cert.KernelIdeal.τ).loc Cert.KernelIdeal.main_v16_6) = v6 c
          ∧ r.2.mem ((c.tc : Thread Cert.KernelIdeal.nD Cert.KernelIdeal.τ).loc Cert.KernelIdeal.main_v16_7) = v7 c
          ∧ r.2.mem ((c.tc : Thread Cert.KernelIdeal.nD Cert.KernelIdeal.τ).loc Cert.KernelIdeal.main_v16_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_v99) = v7 c
          ∧ r.2.mem ((c.tc : Thread Cert.ReferenceIdeal.nD Cert.ReferenceIdeal.τ).loc Cert.ReferenceIdeal.main_v118) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_codebooks_finite : Cert.Pre_codebooks_finite.Facts),
    quiescent_Kernel (hKernel := hKernel)
    ∧ quiescent_KernelIdeal (hKernelIdeal := hKernelIdeal)
    ∧ quiescent_KernelIdeal_pre_codebooks_finite (hKernelIdeal := hKernelIdeal) (hPre_codebooks_finite := hPre_codebooks_finite)
    ∧ quiescent_ReferenceIdeal (hReferenceIdeal := hReferenceIdeal)
    ∧ quiescent_ReferenceIdeal_pre_codebooks_finite (hReferenceIdeal := hReferenceIdeal) (hPre_codebooks_finite := hPre_codebooks_finite)
    ∧ preserves_Kernel_KernelIdeal
    ∧ algebraic_KernelIdeal_ReferenceIdeal_pre_codebooks_finite (hKernelIdeal := hKernelIdeal) (hReferenceIdeal := hReferenceIdeal) (hPre_codebooks_finite := hPre_codebooks_finite)
-- ==== Pre_codebooks_finite.lean ====
abbrev S1024x512 : Shape := ⟨2, ![1024, 512]⟩
abbrev S128x512 : Shape := ⟨2, ![128, 512]⟩
abbrev S128 : Shape := ⟨1, ![128]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S512x128 : Shape := ⟨2, ![512, 128]⟩
abbrev S512 : Shape := ⟨1, ![512]⟩
abbrev S4x1024x256 : Shape := ⟨3, ![4, 1024, 256]⟩
abbrev S1x512 : Shape := ⟨2, ![1, 512]⟩
abbrev S_ : Shape := ⟨0, ![]⟩

class Facts : Prop where
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel

variable [Facts]

def fn {F : FTy → Type} [FloatOps F] (main_arg0 : FVec F S1024x512 .f32) (main_arg1 : FVec F S128x512 .f32) (main_arg2 : FVec F S128 .f32) (main_arg3 : FVec F S128 .f32) (main_arg4 : FVec F S128 .f32) (main_arg5 : FVec F S256x128 .f32) (main_arg6 : FVec F S256 .f32) (main_arg7 : FVec F S256 .f32) (main_arg8 : FVec F S256 .f32) (main_arg9 : FVec F S256x256 .f32) (main_arg10 : FVec F S256 .f32) (main_arg11 : FVec F S256x256 .f32) (main_arg12 : FVec F S256 .f32) (main_arg13 : FVec F S256 .f32) (main_arg14 : FVec F S256 .f32) (main_arg15 : FVec F S128x256 .f32) (main_arg16 : FVec F S128 .f32) (main_arg17 : FVec F S128 .f32) (main_arg18 : FVec F S128 .f32) (main_arg19 : FVec F S512x128 .f32) (main_arg20 : FVec F S512 .f32) (main_arg21 : FVec F S4x1024x256 .f32) (main_arg22 : FVec F S1x512 .f32) (main_arg23 : IVec S512 1) : IVec S_ 1 :=
  let main_v0 : FVec F S4x1024x256 .f32 := Host.absf main_arg21
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  let main_c : IVec S_ 1 := constantI S_ 1 1#1
  let main_v3 : IVec S_ 1 := (fun x v => Host.reduce IntOp.andi x v reducesTo_S4x1024x256_S_d0_1_2 h_S_) main_v2 main_c
  main_v3
-- ==== Kernel.lean ====
abbrev S1024x512 : Shape := ⟨2, ![1024, 512]⟩
abbrev S128x512 : Shape := ⟨2, ![128, 512]⟩
abbrev S128 : Shape := ⟨1, ![128]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S512x128 : Shape := ⟨2, ![512, 128]⟩
abbrev S512 : Shape := ⟨1, ![512]⟩
abbrev S4x1024x256 : Shape := ⟨3, ![4, 1024, 256]⟩
abbrev S1x512 : Shape := ⟨2, ![1, 512]⟩
abbrev S1x128 : Shape := ⟨2, ![1, 128]⟩
abbrev S1x256 : Shape := ⟨2, ![1, 256]⟩
abbrev S1024x256 : Shape := ⟨2, ![1024, 256]⟩
abbrev S256x512 : Shape := ⟨2, ![256, 512]⟩
abbrev S8x1024 : Shape := ⟨2, ![8, 1024]⟩
abbrev S256x1 : Shape := ⟨2, ![256, 1]⟩
abbrev S1024x1024 : Shape := ⟨2, ![1024, 1024]⟩
abbrev S1x1024x256 : Shape := ⟨3, ![1, 1024, 256]⟩
abbrev S1024x128 : Shape := ⟨2, ![1024, 128]⟩
abbrev S1024x64 : Shape := ⟨2, ![1024, 64]⟩
abbrev S1024x32 : Shape := ⟨2, ![1024, 32]⟩
abbrev S1024x16 : Shape := ⟨2, ![1024, 16]⟩
abbrev S1024x8 : Shape := ⟨2, ![1024, 8]⟩
abbrev S1024x4 : Shape := ⟨2, ![1024, 4]⟩
abbrev S1024x2 : Shape := ⟨2, ![1024, 2]⟩
abbrev S1024x1 : Shape := ⟨2, ![1024, 1]⟩
abbrev S1x1024 : Shape := ⟨2, ![1, 1024]⟩
abbrev S256x1024 : Shape := ⟨2, ![256, 1024]⟩
abbrev S256x8 : Shape := ⟨2, ![256, 8]⟩
abbrev S256x4 : Shape := ⟨2, ![256, 4]⟩
abbrev S256x2 : Shape := ⟨2, ![256, 2]⟩

abbrev nBuf : Space → Nat
  | .hbm => 49
  | .vmem => 47
  | .smem => 0
  | _ => 0

abbrev bufTy : (tb : Table) → Fin (tcTables nBuf tb) → BufTy
  | .hbm, ⟨0, _⟩ => ⟨S1024x512, .f32⟩
  | .hbm, ⟨1, _⟩ => ⟨S128x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S128x256, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S512x128, .f32⟩
  | .hbm, ⟨20, _⟩ => ⟨S512, .f32⟩
  | .hbm, ⟨21, _⟩ => ⟨S4x1024x256, .f32⟩
  | .hbm, ⟨22, _⟩ => ⟨S1x512, .f32⟩
  | .hbm, ⟨23, _⟩ => ⟨S512, .i1⟩
  | .hbm, ⟨24, _⟩ => ⟨S1x512, .i1⟩
  | .hbm, ⟨25, _⟩ => ⟨S1x512, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x512, .f32⟩
  | .hbm, ⟨40, _⟩ => ⟨S1024x512, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S1024x256, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S128x512, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S128x256, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S512x128, .f32⟩
  | .local _ .vmem, ⟨23, _⟩ => ⟨S1x512, .f32⟩
  | .local _ .vmem, ⟨24, _⟩ => ⟨S4x1024x256, .f32⟩
  | .local _ .vmem, ⟨25, _⟩ => ⟨S256x512, .f32⟩
  | .local _ .vmem, ⟨26, _⟩ => ⟨S256x512, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S8x1024, .f32⟩
  | .local _ .vmem, ⟨44, _⟩ => ⟨S4x1024x256, .bf16⟩
  | .local _ .vmem, ⟨45, _⟩ => ⟨S4x1024x256, .bf16⟩
  | .local _ .vmem, ⟨46, _⟩ => ⟨S4x1024x256, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev main_v16_3 : Ref sig .tc := ⟨.hbm, 43, rfl⟩
abbrev main_v16_4 : Ref sig .tc := ⟨.hbm, 44, rfl⟩
abbrev main_v16_5 : Ref sig .tc := ⟨.hbm, 45, rfl⟩
abbrev main_v16_6 : Ref sig .tc := ⟨.hbm, 46, rfl⟩
abbrev main_v16_7 : Ref sig .tc := ⟨.hbm, 47, rfl⟩
abbrev main_v16_8 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg24_1 : Ref sig .tc := ⟨.vmem, 26, rfl⟩
abbrev cc0_stg25_0 : Ref sig .tc := ⟨.vmem, 27, rfl⟩
abbrev cc0_stg25_1 : Ref sig .tc := ⟨.vmem, 28, rfl⟩
abbrev cc0_stg26_0 : Ref sig .tc := ⟨.vmem, 29, rfl⟩
abbrev cc0_stg26_1 : Ref sig .tc := ⟨.vmem, 30, rfl⟩
abbrev cc0_stg27_0 : Ref sig .tc := ⟨.vmem, 31, rfl⟩
abbrev cc0_stg27_1 : Ref sig .tc := ⟨.vmem, 32, rfl⟩
abbrev cc0_stg28_0 : Ref sig .tc := ⟨.vmem, 33, rfl⟩
abbrev cc0_stg28_1 : Ref sig .tc := ⟨.vmem, 34, rfl⟩
abbrev cc0_stg29_0 : Ref sig .tc := ⟨.vmem, 35, rfl⟩
abbrev cc0_stg29_1 : Ref sig .tc := ⟨.vmem, 36, rfl⟩
abbrev cc0_stg30_0 : Ref sig .tc := ⟨.vmem, 37, rfl⟩
abbrev cc0_stg30_1 : Ref sig .tc := ⟨.vmem, 38, rfl⟩
abbrev cc0_stg31_0 : Ref sig .tc := ⟨.vmem, 39, rfl⟩
abbrev cc0_stg31_1 : Ref sig .tc := ⟨.vmem, 40, rfl⟩
abbrev cc0_stg32_0 : Ref sig .tc := ⟨.vmem, 41, rfl⟩
abbrev cc0_stg32_1 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_scratch3 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem24_1 : DmaSem sig := 26
abbrev cc0_sem25_0 : DmaSem sig := 27
abbrev cc0_sem25_1 : DmaSem sig := 28
abbrev cc0_sem26_0 : DmaSem sig := 29
abbrev cc0_sem26_1 : DmaSem sig := 30
abbrev cc0_sem27_0 : DmaSem sig := 31
abbrev cc0_sem27_1 : DmaSem sig := 32
abbrev cc0_sem28_0 : DmaSem sig := 33
abbrev cc0_sem28_1 : DmaSem sig := 34
abbrev cc0_sem29_0 : DmaSem sig := 35
abbrev cc0_sem29_1 : DmaSem sig := 36
abbrev cc0_sem30_0 : DmaSem sig := 37
abbrev cc0_sem30_1 : DmaSem sig := 38
abbrev cc0_sem31_0 : DmaSem sig := 39
abbrev cc0_sem31_1 : DmaSem sig := 40
abbrev cc0_sem32_0 : DmaSem sig := 41
abbrev cc0_sem32_1 : DmaSem sig := 42

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x1024x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== KernelIdeal.lean ====
variable {F : FTy → Type} [FloatOps F]
-- ==== ReferenceIdeal.lean ====
abbrev S1024x512 : Shape := ⟨2, ![1024, 512]⟩
abbrev S128x512 : Shape := ⟨2, ![128, 512]⟩
abbrev S128 : Shape := ⟨1, ![128]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S512x128 : Shape := ⟨2, ![512, 128]⟩
abbrev S512 : Shape := ⟨1, ![512]⟩
abbrev S4x1024x256 : Shape := ⟨3, ![4, 1024, 256]⟩
abbrev S1x512 : Shape := ⟨2, ![1, 512]⟩
abbrev S_ : Shape := ⟨0, ![]⟩
abbrev S1 : Shape := ⟨1, ![1]⟩
abbrev S1024x128 : Shape := ⟨2, ![1024, 128]⟩
abbrev S1x128 : Shape := ⟨2, ![1, 128]⟩
abbrev S1024x256 : Shape := ⟨2, ![1024, 256]⟩
abbrev S1x256 : Shape := ⟨2, ![1, 256]⟩
abbrev S1x1024x256 : Shape := ⟨3, ![1, 1024, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S256x1024 : Shape := ⟨2, ![256, 1024]⟩
abbrev S1x1 : Shape := ⟨2, ![1, 1]⟩

abbrev nBuf : Space → Nat
  | .hbm => 322
  | .vmem => 0
  | .smem => 0
  | _ => 0

abbrev hbmTy0_0 (i : Nat) : BufTy := match i % 128 with
  | 0 => ⟨S1024x512, .f32⟩
  | 1 => ⟨S128x512, .f32⟩
  | 2 => ⟨S128, .f32⟩
  | 3 => ⟨S128, .f32⟩
  | 4 => ⟨S128, .f32⟩
  | 5 => ⟨S256x128, .f32⟩
  | 6 => ⟨S256, .f32⟩
  | 7 => ⟨S256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256, .f32⟩
  | 14 => ⟨S256, .f32⟩
  | 15 => ⟨S128x256, .f32⟩
  | 16 => ⟨S128, .f32⟩
  | 17 => ⟨S128, .f32⟩
  | 18 => ⟨S128, .f32⟩
  | 19 => ⟨S512x128, .f32⟩
  | 20 => ⟨S512, .f32⟩
  | 21 => ⟨S4x1024x256, .f32⟩
  | 22 => ⟨S1x512, .f32⟩
  | 23 => ⟨S512, .i1⟩
  | 24 => ⟨S512, .f32⟩
  | 25 => ⟨S_, .i32⟩
  | 26 => ⟨S1, .i32⟩
  | 27 => ⟨S1024x512, .f32⟩
  | 28 => ⟨S1x512, .i1⟩
  | 29 => ⟨S_, .f32⟩
  | 30 => ⟨S_, .f32⟩
  | 31 => ⟨S1024x512, .i1⟩
  | 32 => ⟨S1024x512, .f32⟩
  | 33 => ⟨S1024x512, .f32⟩
  | 34 => ⟨S1024x512, .f32⟩
  | 35 => ⟨S1024x512, .f32⟩
  | 36 => ⟨S512x128, .f32⟩
  | 37 => ⟨S1024x128, .f32⟩
  | 38 => ⟨S1x128, .f32⟩
  | 39 => ⟨S1024x128, .f32⟩
  | 40 => ⟨S1024x128, .f32⟩
  | 41 => ⟨S_, .f32⟩
  | 42 => ⟨S_, .f32⟩
  | 43 => ⟨S_, .f32⟩
  | 44 => ⟨S1024x128, .f32⟩
  | 45 => ⟨S1024x128, .f32⟩
  | 46 => ⟨S1x128, .f32⟩
  | 47 => ⟨S1024x128, .f32⟩
  | 48 => ⟨S1024x128, .f32⟩
  | 49 => ⟨S1x128, .f32⟩
  | 50 => ⟨S1024x128, .f32⟩
  | 51 => ⟨S1024x128, .f32⟩
  | 52 => ⟨S_, .f32⟩
  | 53 => ⟨S1024x128, .f32⟩
  | 54 => ⟨S1024x128, .f32⟩
  | 55 => ⟨S128x256, .f32⟩
  | 56 => ⟨S1024x256, .f32⟩
  | 57 => ⟨S1x256, .f32⟩
  | 58 => ⟨S1024x256, .f32⟩
  | 59 => ⟨S1024x256, .f32⟩
  | 60 => ⟨S_, .f32⟩
  | 61 => ⟨S_, .f32⟩
  | 62 => ⟨S_, .f32⟩
  | 63 => ⟨S1024x256, .f32⟩
  | 64 => ⟨S1024x256, .f32⟩
  | 65 => ⟨S1x256, .f32⟩
  | 66 => ⟨S1024x256, .f32⟩
  | 67 => ⟨S1024x256, .f32⟩
  | 68 => ⟨S1x256, .f32⟩
  | 69 => ⟨S1024x256, .f32⟩
  | 70 => ⟨S1024x256, .f32⟩
  | 71 => ⟨S_, .f32⟩
  | 72 => ⟨S1024x256, .f32⟩
  | 73 => ⟨S1024x256, .f32⟩
  | 74 => ⟨S256x256, .f32⟩
  | 75 => ⟨S1024x256, .f32⟩
  | 76 => ⟨S1x256, .f32⟩
  | 77 => ⟨S1024x256, .f32⟩
  | 78 => ⟨S1024x256, .f32⟩
  | 79 => ⟨S1x1024x256, .f32⟩
  | 80 => ⟨S1024x256, .f32⟩
  | 81 => ⟨S1024x256, .f32⟩
  | 82 => ⟨S_, .f32⟩
  | 83 => ⟨S1024, .f32⟩
  | 84 => ⟨S1024x1, .f32⟩
  | 85 => ⟨S1024x256, .f32⟩
  | 86 => ⟨S_, .f32⟩
  | 87 => ⟨S1024, .f32⟩
  | 88 => ⟨S1x1024, .f32⟩
  | 89 => ⟨S1024x1024, .f32⟩
  | 90 => ⟨S1024x1024, .f32⟩
  | 91 => ⟨S1024x1024, .f32⟩
  | 92 => ⟨S256x1024, .f32⟩
  | 93 => ⟨S1024x1024, .f32⟩
  | 94 => ⟨S_, .f32⟩
  | 95 => ⟨S1024x1024, .f32⟩
  | 96 => ⟨S1024x1024, .f32⟩
  | 97 => ⟨S1024x1024, .f32⟩
  | 98 => ⟨S1024x1024, .i32⟩
  | 99 => ⟨S_, .f32⟩
  | 100 => ⟨S_, .i32⟩
  | 101 => ⟨S1024, .f32⟩
  | 102 => ⟨S1024, .i32⟩
  | 103 => ⟨S_, .i32⟩
  | 104 => ⟨S1024, .i32⟩
  | 105 => ⟨S1024, .i1⟩
  | 106 => ⟨S_, .i32⟩
  | 107 => ⟨S1024, .i32⟩
  | 108 => ⟨S1024, .i32⟩
  | 109 => ⟨S1024, .i32⟩
  | 110 => ⟨S1024x1, .i32⟩
  | 111 => ⟨S1, .i32⟩
  | 112 => ⟨S_, .i32⟩
  | 113 => ⟨S1024x1, .i32⟩
  | 114 => ⟨S1024x1, .i1⟩
  | 115 => ⟨S1x1, .i32⟩
  | 116 => ⟨S1024x1, .i32⟩
  | 117 => ⟨S1024x1, .i1⟩
  | 118 => ⟨S1024x1, .i1⟩
  | 119 => ⟨S_, .i1⟩
  | 120 => ⟨S1024, .i1⟩
  | 121 => ⟨S1024x256, .f32⟩
  | 122 => ⟨S1024x256, .i1⟩
  | 123 => ⟨S_, .f32⟩
  | 124 => ⟨S1024x256, .f32⟩
  | 125 => ⟨S1024x256, .f32⟩
  | 126 => ⟨S1024x256, .f32⟩
  | 127 => ⟨S1x1024x256, .f32⟩
  | _ => ⟨S1024x512, .f32⟩

abbrev hbmTy0_1 (i : Nat) : BufTy := match i % 128 with
  | 0 => ⟨S1024x256, .f32⟩
  | 1 => ⟨S1024x256, .f32⟩
  | 2 => ⟨S_, .f32⟩
  | 3 => ⟨S1024, .f32⟩
  | 4 => ⟨S1024x1, .f32⟩
  | 5 => ⟨S1024x256, .f32⟩
  | 6 => ⟨S_, .f32⟩
  | 7 => ⟨S1024, .f32⟩
  | 8 => ⟨S1x1024, .f32⟩
  | 9 => ⟨S1024x1024, .f32⟩
  | 10 => ⟨S1024x1024, .f32⟩
  | 11 => ⟨S1024x1024, .f32⟩
  | 12 => ⟨S256x1024, .f32⟩
  | 13 => ⟨S1024x1024, .f32⟩
  | 14 => ⟨S_, .f32⟩
  | 15 => ⟨S1024x1024, .f32⟩
  | 16 => ⟨S1024x1024, .f32⟩
  | 17 => ⟨S1024x1024, .f32⟩
  | 18 => ⟨S1024x1024, .i32⟩
  | 19 => ⟨S_, .f32⟩
  | 20 => ⟨S_, .i32⟩
  | 21 => ⟨S1024, .f32⟩
  | 22 => ⟨S1024, .i32⟩
  | 23 => ⟨S_, .i32⟩
  | 24 => ⟨S1024, .i32⟩
  | 25 => ⟨S1024, .i1⟩
  | 26 => ⟨S_, .i32⟩
  | 27 => ⟨S1024, .i32⟩
  | 28 => ⟨S1024, .i32⟩
  | 29 => ⟨S1024, .i32⟩
  | 30 => ⟨S1024x1, .i32⟩
  | 31 => ⟨S1, .i32⟩
  | 32 => ⟨S_, .i32⟩
  | 33 => ⟨S1024x1, .i32⟩
  | 34 => ⟨S1024x1, .i1⟩
  | 35 => ⟨S1x1, .i32⟩
  | 36 => ⟨S1024x1, .i32⟩
  | 37 => ⟨S1024x1, .i1⟩
  | 38 => ⟨S1024x1, .i1⟩
  | 39 => ⟨S_, .i1⟩
  | 40 => ⟨S1024, .i1⟩
  | 41 => ⟨S1024x256, .f32⟩
  | 42 => ⟨S1024x256, .i1⟩
  | 43 => ⟨S_, .f32⟩
  | 44 => ⟨S1024x256, .f32⟩
  | 45 => ⟨S1024x256, .f32⟩
  | 46 => ⟨S1024x256, .f32⟩
  | 47 => ⟨S1x1024x256, .f32⟩
  | 48 => ⟨S1024x256, .f32⟩
  | 49 => ⟨S1024x256, .f32⟩
  | 50 => ⟨S_, .f32⟩
  | 51 => ⟨S1024, .f32⟩
  | 52 => ⟨S1024x1, .f32⟩
  | 53 => ⟨S1024x256, .f32⟩
  | 54 => ⟨S_, .f32⟩
  | 55 => ⟨S1024, .f32⟩
  | 56 => ⟨S1x1024, .f32⟩
  | 57 => ⟨S1024x1024, .f32⟩
  | 58 => ⟨S1024x1024, .f32⟩
  | 59 => ⟨S1024x1024, .f32⟩
  | 60 => ⟨S256x1024, .f32⟩
  | 61 => ⟨S1024x1024, .f32⟩
  | 62 => ⟨S_, .f32⟩
  | 63 => ⟨S1024x1024, .f32⟩
  | 64 => ⟨S1024x1024, .f32⟩
  | 65 => ⟨S1024x1024, .f32⟩
  | 66 => ⟨S1024x1024, .i32⟩
  | 67 => ⟨S_, .f32⟩
  | 68 => ⟨S_, .i32⟩
  | 69 => ⟨S1024, .f32⟩
  | 70 => ⟨S1024, .i32⟩
  | 71 => ⟨S_, .i32⟩
  | 72 => ⟨S1024, .i32⟩
  | 73 => ⟨S1024, .i1⟩
  | 74 => ⟨S_, .i32⟩
  | 75 => ⟨S1024, .i32⟩
  | 76 => ⟨S1024, .i32⟩
  | 77 => ⟨S1024, .i32⟩
  | 78 => ⟨S1024x1, .i32⟩
  | 79 => ⟨S1, .i32⟩
  | 80 => ⟨S_, .i32⟩
  | 81 => ⟨S1024x1, .i32⟩
  | 82 => ⟨S1024x1, .i1⟩
  | 83 => ⟨S1x1, .i32⟩
  | 84 => ⟨S1024x1, .i32⟩
  | 85 => ⟨S1024x1, .i1⟩
  | 86 => ⟨S1024x1, .i1⟩
  | 87 => ⟨S_, .i1⟩
  | 88 => ⟨S1024, .i1⟩
  | 89 => ⟨S1024x256, .f32⟩
  | 90 => ⟨S1024x256, .i1⟩
  | 91 => ⟨S_, .f32⟩
  | 92 => ⟨S1024x256, .f32⟩
  | 93 => ⟨S1024x256, .f32⟩
  | 94 => ⟨S1024x256, .f32⟩
  | 95 => ⟨S1x1024x256, .f32⟩
  | 96 => ⟨S1024x256, .f32⟩
  | 97 => ⟨S1024x256, .f32⟩
  | 98 => ⟨S_, .f32⟩
  | 99 => ⟨S1024, .f32⟩
  | 100 => ⟨S1024x1, .f32⟩
  | 101 => ⟨S1024x256, .f32⟩
  | 102 => ⟨S_, .f32⟩
  | 103 => ⟨S1024, .f32⟩
  | 104 => ⟨S1x1024, .f32⟩
  | 105 => ⟨S1024x1024, .f32⟩
  | 106 => ⟨S1024x1024, .f32⟩
  | 107 => ⟨S1024x1024, .f32⟩
  | 108 => ⟨S256x1024, .f32⟩
  | 109 => ⟨S1024x1024, .f32⟩
  | 110 => ⟨S_, .f32⟩
  | 111 => ⟨S1024x1024, .f32⟩
  | 112 => ⟨S1024x1024, .f32⟩
  | 113 => ⟨S1024x1024, .f32⟩
  | 114 => ⟨S1024x1024, .i32⟩
  | 115 => ⟨S_, .f32⟩
  | 116 => ⟨S_, .i32⟩
  | 117 => ⟨S1024, .f32⟩
  | 118 => ⟨S1024, .i32⟩
  | 119 => ⟨S_, .i32⟩
  | 120 => ⟨S1024, .i32⟩
  | 121 => ⟨S1024, .i1⟩
  | 122 => ⟨S_, .i32⟩
  | 123 => ⟨S1024, .i32⟩
  | 124 => ⟨S1024, .i32⟩
  | 125 => ⟨S1024, .i32⟩
  | 126 => ⟨S1024x1, .i32⟩
  | 127 => ⟨S1, .i32⟩
  | _ => ⟨S1024x512, .f32⟩

abbrev hbmTy0_2 (i : Nat) : BufTy := match i % 128 with
  | 0 => ⟨S_, .i32⟩
  | 1 => ⟨S1024x1, .i32⟩
  | 2 => ⟨S1024x1, .i1⟩
  | 3 => ⟨S1x1, .i32⟩
  | 4 => ⟨S1024x1, .i32⟩
  | 5 => ⟨S1024x1, .i1⟩
  | 6 => ⟨S1024x1, .i1⟩
  | 7 => ⟨S_, .i1⟩
  | 8 => ⟨S1024, .i1⟩
  | 9 => ⟨S1024x256, .f32⟩
  | 10 => ⟨S1024x256, .i1⟩
  | 11 => ⟨S_, .f32⟩
  | 12 => ⟨S1024x256, .f32⟩
  | 13 => ⟨S1024x256, .f32⟩
  | 14 => ⟨S1x1024x256, .f32⟩
  | 15 => ⟨S1x1024x256, .f32⟩
  | 16 => ⟨S1x1024x256, .f32⟩
  | 17 => ⟨S1x1024x256, .f32⟩
  | 18 => ⟨S4x1024x256, .f32⟩
  | 19 => ⟨S_, .f32⟩
  | 20 => ⟨S1024x256, .f32⟩
  | 21 => ⟨S1024x256, .f32⟩
  | 22 => ⟨S1024x256, .f32⟩
  | 23 => ⟨S256x256, .f32⟩
  | 24 => ⟨S1024x256, .f32⟩
  | 25 => ⟨S1x256, .f32⟩
  | 26 => ⟨S1024x256, .f32⟩
  | 27 => ⟨S1024x256, .f32⟩
  | 28 => ⟨S_, .f32⟩
  | 29 => ⟨S_, .f32⟩
  | 30 => ⟨S_, .f32⟩
  | 31 => ⟨S1024x256, .f32⟩
  | 32 => ⟨S1024x256, .f32⟩
  | 33 => ⟨S1x256, .f32⟩
  | 34 => ⟨S1024x256, .f32⟩
  | 35 => ⟨S1024x256, .f32⟩
  | 36 => ⟨S1x256, .f32⟩
  | 37 => ⟨S1024x256, .f32⟩
  | 38 => ⟨S1024x256, .f32⟩
  | 39 => ⟨S_, .f32⟩
  | 40 => ⟨S1024x256, .f32⟩
  | 41 => ⟨S1024x256, .f32⟩
  | 42 => ⟨S256x128, .f32⟩
  | 43 => ⟨S1024x128, .f32⟩
  | 44 => ⟨S1x128, .f32⟩
  | 45 => ⟨S1024x128, .f32⟩
  | 46 => ⟨S1024x128, .f32⟩
  | 47 => ⟨S_, .f32⟩
  | 48 => ⟨S_, .f32⟩
  | 49 => ⟨S_, .f32⟩
  | 50 => ⟨S1024x128, .f32⟩
  | 51 => ⟨S1024x128, .f32⟩
  | 52 => ⟨S1x128, .f32⟩
  | 53 => ⟨S1024x128, .f32⟩
  | 54 => ⟨S1024x128, .f32⟩
  | 55 => ⟨S1x128, .f32⟩
  | 56 => ⟨S1024x128, .f32⟩
  | 57 => ⟨S1024x128, .f32⟩
  | 58 => ⟨S_, .f32⟩
  | 59 => ⟨S1024x128, .f32⟩
  | 60 => ⟨S1024x128, .f32⟩
  | 61 => ⟨S128x512, .f32⟩
  | 62 => ⟨S1024x512, .f32⟩
  | 63 => ⟨S1x512, .f32⟩
  | 64 => ⟨S1024x512, .f32⟩
  | 65 => ⟨S1024x512, .f32⟩
  | _ => ⟨S1024x512, .f32⟩

abbrev hbmTy (i : Nat) : BufTy := match i / 128 with
  | 0 => hbmTy0_0 i
  | 1 => hbmTy0_1 i
  | 2 => hbmTy0_2 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_call1_cst : Ref sig .tc := ⟨.hbm, 52, rfl⟩
abbrev main_call1_v0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_1 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_call2_cst : Ref sig .tc := ⟨.hbm, 71, rfl⟩
abbrev main_call2_v0 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_2 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_3 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_4 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_call3_v0 : Ref sig .tc := ⟨.hbm, 98, rfl⟩
abbrev main_call3_cst : Ref sig .tc := ⟨.hbm, 99, rfl⟩
abbrev main_call3_c : Ref sig .tc := ⟨.hbm, 100, rfl⟩
abbrev main_call3_v1_0 : Ref sig .tc := ⟨.hbm, 101, rfl⟩
abbrev main_v60 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_v14 : Ref sig .tc := ⟨.hbm, 122, rfl⟩
abbrev main_call4_cst : Ref sig .tc := ⟨.hbm, 123, rfl⟩
abbrev main_call4_v15 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_5 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_6 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_7 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_call5_v0 : Ref sig .tc := ⟨.hbm, 146, rfl⟩
abbrev main_call5_cst : Ref sig .tc := ⟨.hbm, 147, rfl⟩
abbrev main_call5_c : Ref sig .tc := ⟨.hbm, 148, rfl⟩
abbrev main_call5_v1_0 : Ref sig .tc := ⟨.hbm, 149, rfl⟩
abbrev main_v79 : Ref sig .tc := ⟨.hbm, 150, rfl⟩
abbrev main_call6_c : Ref sig .tc := ⟨.hbm, 151, rfl⟩
abbrev main_call6_v0 : Ref sig .tc := ⟨.hbm, 152, rfl⟩
abbrev main_call6_v1 : Ref sig .tc := ⟨.hbm, 153, rfl⟩
abbrev main_call6_c_0 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_call6_v5 : Ref sig .tc := ⟨.hbm, 158, rfl⟩
abbrev main_call6_c_1 : Ref sig .tc := ⟨.hbm, 159, rfl⟩
abbrev main_call6_c_2 : Ref sig .tc := ⟨.hbm, 160, rfl⟩
abbrev main_call6_v6 : Ref sig .tc := ⟨.hbm, 161, rfl⟩
abbrev main_call6_v7 : Ref sig .tc := ⟨.hbm, 162, rfl⟩
abbrev main_call6_v8 : Ref sig .tc := ⟨.hbm, 163, rfl⟩
abbrev main_call6_v9 : Ref sig .tc := ⟨.hbm, 164, rfl⟩
abbrev main_call6_v10 : Ref sig .tc := ⟨.hbm, 165, rfl⟩
abbrev main_call6_v11 : Ref sig .tc := ⟨.hbm, 166, rfl⟩
abbrev main_call6_c_3 : Ref sig .tc := ⟨.hbm, 167, rfl⟩
abbrev main_call6_v12 : Ref sig .tc := ⟨.hbm, 168, rfl⟩
abbrev main_call6_v13 : Ref sig .tc := ⟨.hbm, 169, rfl⟩
abbrev main_call6_v14 : Ref sig .tc := ⟨.hbm, 170, rfl⟩
abbrev main_call6_cst : Ref sig .tc := ⟨.hbm, 171, rfl⟩
abbrev main_call6_v15 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_cst_8 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_cst_9 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_cst_10 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_call7_v0 : Ref sig .tc := ⟨.hbm, 194, rfl⟩
abbrev main_call7_cst : Ref sig .tc := ⟨.hbm, 195, rfl⟩
abbrev main_call7_c : Ref sig .tc := ⟨.hbm, 196, rfl⟩
abbrev main_call7_v1_0 : Ref sig .tc := ⟨.hbm, 197, rfl⟩
abbrev main_v98 : Ref sig .tc := ⟨.hbm, 198, rfl⟩
abbrev main_call8_c : Ref sig .tc := ⟨.hbm, 199, rfl⟩
abbrev main_call8_v0 : Ref sig .tc := ⟨.hbm, 200, rfl⟩
abbrev main_call8_v1 : Ref sig .tc := ⟨.hbm, 201, rfl⟩
abbrev main_call8_c_0 : Ref sig .tc := ⟨.hbm, 202, rfl⟩
abbrev main_call8_v2 : Ref sig .tc := ⟨.hbm, 203, rfl⟩
abbrev main_call8_v3 : Ref sig .tc := ⟨.hbm, 204, rfl⟩
abbrev main_call8_v4 : Ref sig .tc := ⟨.hbm, 205, rfl⟩
abbrev main_call8_v5 : Ref sig .tc := ⟨.hbm, 206, rfl⟩
abbrev main_call8_c_1 : Ref sig .tc := ⟨.hbm, 207, rfl⟩
abbrev main_call8_c_2 : Ref sig .tc := ⟨.hbm, 208, rfl⟩
abbrev main_call8_v6 : Ref sig .tc := ⟨.hbm, 209, rfl⟩
abbrev main_call8_v7 : Ref sig .tc := ⟨.hbm, 210, rfl⟩
abbrev main_call8_v8 : Ref sig .tc := ⟨.hbm, 211, rfl⟩
abbrev main_call8_v9 : Ref sig .tc := ⟨.hbm, 212, rfl⟩
abbrev main_call8_v10 : Ref sig .tc := ⟨.hbm, 213, rfl⟩
abbrev main_call8_v11 : Ref sig .tc := ⟨.hbm, 214, rfl⟩
abbrev main_call8_c_3 : Ref sig .tc := ⟨.hbm, 215, rfl⟩
abbrev main_call8_v12 : Ref sig .tc := ⟨.hbm, 216, rfl⟩
abbrev main_call8_v13 : Ref sig .tc := ⟨.hbm, 217, rfl⟩
abbrev main_call8_v14 : Ref sig .tc := ⟨.hbm, 218, rfl⟩
abbrev main_call8_cst : Ref sig .tc := ⟨.hbm, 219, rfl⟩
abbrev main_call8_v15 : Ref sig .tc := ⟨.hbm, 220, rfl⟩
abbrev main_v99 : Ref sig .tc := ⟨.hbm, 221, rfl⟩
abbrev main_v100 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_cst_11 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_cst_12 : Ref sig .tc := ⟨.hbm, 230, rfl⟩
abbrev main_v107 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_cst_13 : Ref sig .tc := ⟨.hbm, 238, rfl⟩
abbrev main_v114 : Ref sig .tc := ⟨.hbm, 239, rfl⟩
abbrev main_v115 : Ref sig .tc := ⟨.hbm, 240, rfl⟩
abbrev main_v116 : Ref sig .tc := ⟨.hbm, 241, rfl⟩
abbrev main_call9_v0 : Ref sig .tc := ⟨.hbm, 242, rfl⟩
abbrev main_call9_cst : Ref sig .tc := ⟨.hbm, 243, rfl⟩
abbrev main_call9_c : Ref sig .tc := ⟨.hbm, 244, rfl⟩
abbrev main_call9_v1_0 : Ref sig .tc := ⟨.hbm, 245, rfl⟩
abbrev main_v117 : Ref sig .tc := ⟨.hbm, 246, rfl⟩
abbrev main_call10_c : Ref sig .tc := ⟨.hbm, 247, rfl⟩
abbrev main_call10_v0 : Ref sig .tc := ⟨.hbm, 248, rfl⟩
abbrev main_call10_v1 : Ref sig .tc := ⟨.hbm, 249, rfl⟩
abbrev main_call10_c_0 : Ref sig .tc := ⟨.hbm, 250, rfl⟩
abbrev main_call10_v2 : Ref sig .tc := ⟨.hbm, 251, rfl⟩
abbrev main_call10_v3 : Ref sig .tc := ⟨.hbm, 252, rfl⟩
abbrev main_call10_v4 : Ref sig .tc := ⟨.hbm, 253, rfl⟩
abbrev main_call10_v5 : Ref sig .tc := ⟨.hbm, 254, rfl⟩
abbrev main_call10_c_1 : Ref sig .tc := ⟨.hbm, 255, rfl⟩
abbrev main_call10_c_2 : Ref sig .tc := ⟨.hbm, 256, rfl⟩
abbrev main_call10_v6 : Ref sig .tc := ⟨.hbm, 257, rfl⟩
abbrev main_call10_v7 : Ref sig .tc := ⟨.hbm, 258, rfl⟩
abbrev main_call10_v8 : Ref sig .tc := ⟨.hbm, 259, rfl⟩
abbrev main_call10_v9 : Ref sig .tc := ⟨.hbm, 260, rfl⟩
abbrev main_call10_v10 : Ref sig .tc := ⟨.hbm, 261, rfl⟩
abbrev main_call10_v11 : Ref sig .tc := ⟨.hbm, 262, rfl⟩
abbrev main_call10_c_3 : Ref sig .tc := ⟨.hbm, 263, rfl⟩
abbrev main_call10_v12 : Ref sig .tc := ⟨.hbm, 264, rfl⟩
abbrev main_call10_v13 : Ref sig .tc := ⟨.hbm, 265, rfl⟩
abbrev main_call10_v14 : Ref sig .tc := ⟨.hbm, 266, rfl⟩
abbrev main_call10_cst : Ref sig .tc := ⟨.hbm, 267, rfl⟩
abbrev main_call10_v15 : Ref sig .tc := ⟨.hbm, 268, rfl⟩
abbrev main_v118 : Ref sig .tc := ⟨.hbm, 269, rfl⟩
abbrev main_v119 : Ref sig .tc := ⟨.hbm, 270, rfl⟩
abbrev main_v120 : Ref sig .tc := ⟨.hbm, 271, rfl⟩
abbrev main_v121 : Ref sig .tc := ⟨.hbm, 272, rfl⟩
abbrev main_v122 : Ref sig .tc := ⟨.hbm, 273, rfl⟩
abbrev main_v123 : Ref sig .tc := ⟨.hbm, 274, rfl⟩
abbrev main_cst_14 : Ref sig .tc := ⟨.hbm, 275, rfl⟩
abbrev main_v124 : Ref sig .tc := ⟨.hbm, 276, rfl⟩
abbrev main_v125 : Ref sig .tc := ⟨.hbm, 277, rfl⟩
abbrev main_v126 : Ref sig .tc := ⟨.hbm, 278, rfl⟩
abbrev main_v127 : Ref sig .tc := ⟨.hbm, 279, rfl⟩
abbrev main_v128 : Ref sig .tc := ⟨.hbm, 280, rfl⟩
abbrev main_v129 : Ref sig .tc := ⟨.hbm, 281, rfl⟩
abbrev main_v130 : Ref sig .tc := ⟨.hbm, 282, rfl⟩
abbrev main_v131 : Ref sig .tc := ⟨.hbm, 283, rfl⟩
abbrev main_cst_15 : Ref sig .tc := ⟨.hbm, 284, rfl⟩
abbrev main_v132 : Ref sig .tc := ⟨.hbm, 285, rfl⟩
abbrev main_v133 : Ref sig .tc := ⟨.hbm, 286, rfl⟩
abbrev main_v134 : Ref sig .tc := ⟨.hbm, 287, rfl⟩
abbrev main_v135 : Ref sig .tc := ⟨.hbm, 288, rfl⟩
abbrev main_v136 : Ref sig .tc := ⟨.hbm, 289, rfl⟩
abbrev main_v137 : Ref sig .tc := ⟨.hbm, 290, rfl⟩
abbrev main_v138 : Ref sig .tc := ⟨.hbm, 291, rfl⟩
abbrev main_v139 : Ref sig .tc := ⟨.hbm, 292, rfl⟩
abbrev main_v140 : Ref sig .tc := ⟨.hbm, 293, rfl⟩
abbrev main_v141 : Ref sig .tc := ⟨.hbm, 294, rfl⟩
abbrev main_call11_cst : Ref sig .tc := ⟨.hbm, 295, rfl⟩
abbrev main_call11_v0 : Ref sig .tc := ⟨.hbm, 296, rfl⟩
abbrev main_v142 : Ref sig .tc := ⟨.hbm, 297, rfl⟩
abbrev main_v143 : Ref sig .tc := ⟨.hbm, 298, rfl⟩
abbrev main_v144 : Ref sig .tc := ⟨.hbm, 299, rfl⟩
abbrev main_v145 : Ref sig .tc := ⟨.hbm, 300, rfl⟩
abbrev main_v146 : Ref sig .tc := ⟨.hbm, 301, rfl⟩
abbrev main_v147 : Ref sig .tc := ⟨.hbm, 302, rfl⟩
abbrev main_cst_16 : Ref sig .tc := ⟨.hbm, 303, rfl⟩
abbrev main_v148 : Ref sig .tc := ⟨.hbm, 304, rfl⟩
abbrev main_v149 : Ref sig .tc := ⟨.hbm, 305, rfl⟩
abbrev main_v150 : Ref sig .tc := ⟨.hbm, 306, rfl⟩
abbrev main_v151 : Ref sig .tc := ⟨.hbm, 307, rfl⟩
abbrev main_v152 : Ref sig .tc := ⟨.hbm, 308, rfl⟩
abbrev main_v153 : Ref sig .tc := ⟨.hbm, 309, rfl⟩
abbrev main_v154 : Ref sig .tc := ⟨.hbm, 310, rfl⟩
abbrev main_v155 : Ref sig .tc := ⟨.hbm, 311, rfl⟩
abbrev main_v156 : Ref sig .tc := ⟨.hbm, 312, rfl⟩
abbrev main_v157 : Ref sig .tc := ⟨.hbm, 313, rfl⟩
abbrev main_call12_cst : Ref sig .tc := ⟨.hbm, 314, rfl⟩
abbrev main_call12_v0 : Ref sig .tc := ⟨.hbm, 315, rfl⟩
abbrev main_v158 : Ref sig .tc := ⟨.hbm, 316, rfl⟩
abbrev main_v159 : Ref sig .tc := ⟨.hbm, 317, rfl⟩
abbrev main_v160 : Ref sig .tc := ⟨.hbm, 318, rfl⟩
abbrev main_v161 : Ref sig .tc := ⟨.hbm, 319, rfl⟩
abbrev main_v162 : Ref sig .tc := ⟨.hbm, 320, rfl⟩
abbrev main_v163 : Ref sig .tc := ⟨.hbm, 321, rfl⟩

abbrev nD : Nat := 1
abbrev τ : Topo := Topo.v7x

variable {F : FTy → Type} [FloatOps F]
-- ==== Proof.KernelSetup.lean ====
/- What the frame of the rounded kernel is stated over: its branch's condition, the buffers the body is handed, its scratch. -/
module

public import proofs.«01_k».proof.Proof.Gen.Kernel.Skeleton
public import proofs.«01_k».proof.Proof.Gen.Kernel.Frame

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A run that ends with the input arrays as launched ends with the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(Pipeline.RDat.FramePost.arr_in h c 0 rfl).trans ((hA c 0).trans (V_main_arg0 m c)),
      (Pipeline.RDat.FramePost.arr_in h c 3 rfl).trans ((hA c 3).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 7 rfl).trans ((hA c 7).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 11 rfl).trans ((hA c 11).trans (V_main_arg9 m c)),
      ((h c).2 main_arg10 (Pipeline.mem_restRefs_of main_arg10 (by decide) (by decide))).trans (V_main_arg10 m c),
      (Pipeline.RDat.FramePost.arr_in h c 13 rfl).trans ((hA c 13).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      (Pipeline.RDat.FramePost.arr_in h c 17 rfl).trans ((hA c 17).trans (V_main_arg15 m c)),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      (Pipeline.RDat.FramePost.arr_in h c 21 rfl).trans ((hA c 21).trans (V_main_arg19 m c)),
      ((h c).2 main_arg20 (Pipeline.mem_restRefs_of main_arg20 (by decide) (by decide))).trans (V_main_arg20 m c),
      (Pipeline.RDat.FramePost.arr_in h c 23 rfl).trans ((hA c 23).trans (V_main_arg21 m c)),
      (Pipeline.RDat.FramePost.arr_in h c 2 rfl).trans ((hA c 2).trans (V_main_arg22 m c)),
      ((h c).2 main_arg23 (Pipeline.mem_restRefs_of main_arg23 (by decide) (by decide))).trans (V_main_arg23 m c)⟩) h

/-! ## The body's branch conditions -/

/-- The condition under which the body fills its scratch, from the grid's coordinates. -/
abbrev cond0_0 (i : grid0.Coords) : Prop := (Scalar.cmpi .ne (Scalar.extui (Scalar.cmpi .eq (BitVec.ofNat 32 (i 0).val) 0#32)) 0#32) = 1#1
/-- It holds at the first step only. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-! ## The body's buffers -/

/-- The staging buffer of each window at step `t`, and that it is whole. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x512 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S4x1024x256 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S256x512 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S256x256 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S256x256 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S256x256 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S256x256 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S256x256 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S256x256 .f32 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S256x256 .f32 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S256x256 .f32 := win0_32.stage (cfg0.slots t 32)
abbrev hs0_32 (t : Fin cfg0.N) : (ms0_32 t).IsWhole := hstage0_32 ((cfg0.slots t 32).cast nbuf0_32)
/-- The scratch buffers. -/
abbrev scM0_0 : Memref sig .tc .vmem S8x1024 .f32 := Memref.whole cc0_scratch0
abbrev scM0_1 : Memref sig .tc .vmem S4x1024x256 .bf16 := Memref.whole cc0_scratch1
abbrev scM0_2 : Memref sig .tc .vmem S4x1024x256 .bf16 := Memref.whole cc0_scratch2
abbrev scM0_3 : Memref sig .tc .vmem S4x1024x256 .bf16 := Memref.whole cc0_scratch3

/-- What the pipeline keeps between steps: the scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Whole

end
-- ==== Proof.KernelRunA.lean ====
/- The rounded kernel's body at the first grid step: it runs and leaves its inputs as they were. -/
module

public import proofs.«01_k».proof.Proof.KernelSetup

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the first grid step, given its inputs' blocks and any contents of the outputs and of the scratch:
    it runs to its end and hands the inputs back as they were, the outputs and the scratch at some contents. -/
theorem kernelRun0_A (c : Dev nD) (i : grid0.Coords) (arg1 : Memref sig .tc .vmem S256x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S512x128 .f32) (harg22 : arg22.IsWhole) (arg23 : Memref sig .tc .vmem S1x512 .f32) (harg23 : arg23.IsWhole) (arg24 : Memref sig .tc .vmem S4x1024x256 .f32) (harg24 : arg24.IsWhole) (arg25 : Memref sig .tc .vmem S256x512 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (arg34 : Memref sig .tc .vmem S8x1024 .f32) (harg34 : arg34.IsWhole) (arg35 : Memref sig .tc .vmem S4x1024x256 .bf16) (harg35 : arg35.IsWhole) (arg36 : Memref sig .tc .vmem S4x1024x256 .bf16) (harg36 : arg36.IsWhole) (arg37 : Memref sig .tc .vmem S4x1024x256 .bf16) (harg37 : arg37.IsWhole) (hc0 : cond0_0 i)
    (x0 : Vec F S256x512 .f32) (x1 : Vec F S1x512 .f32) (x2 : Vec F S1x512 .f32) (x3 : Vec F S128x512 .f32) (x4 : Vec F S1x128 .f32) (x5 : Vec F S1x128 .f32) (x6 : Vec F S1x128 .f32) (x7 : Vec F S256x128 .f32) (x8 : Vec F S1x256 .f32) (x9 : Vec F S1x256 .f32) (x10 : Vec F S1x256 .f32) (x11 : Vec F S256x256 .f32) (x12 : Vec F S1x256 .f32) (x13 : Vec F S256x256 .f32) (x14 : Vec F S1x256 .f32) (x15 : Vec F S1x256 .f32) (x16 : Vec F S1x256 .f32) (x17 : Vec F S128x256 .f32) (x18 : Vec F S1x128 .f32) (x19 : Vec F S1x128 .f32) (x20 : Vec F S1x128 .f32) (x21 : Vec F S512x128 .f32) (x22 : Vec F S1x512 .f32) (x23 : Vec F S4x1024x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
    intro E K
    simp only [cc0__body_eq_skeleton]; unfold cc0__body_skel
    simp only [k0_part4_eq_skeleton, k0_part5_eq_skeleton, k0_part1_eq_skeleton, k0_part2_eq_skeleton, k0_part3_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Whole

end
-- ==== Proof.KernelRunB.lean ====
/- The rounded kernel's body at a later grid step: it runs and leaves its inputs as they were. -/
module

public import proofs.«01_k».proof.Proof.KernelRunA

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a later grid step, given its inputs' blocks and any contents of the outputs and of the scratch:
    it runs to its end and hands the inputs back as they were, the outputs and the scratch at some contents. -/
theorem kernelRun0_B (c : Dev nD) (i : grid0.Coords) (arg1 : Memref sig .tc .vmem S256x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S512x128 .f32) (harg22 : arg22.IsWhole) (arg23 : Memref sig .tc .vmem S1x512 .f32) (harg23 : arg23.IsWhole) (arg24 : Memref sig .tc .vmem S4x1024x256 .f32) (harg24 : arg24.IsWhole) (arg25 : Memref sig .tc .vmem S256x512 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (arg34 : Memref sig .tc .vmem S8x1024 .f32) (harg34 : arg34.IsWhole) (arg35 : Memref sig .tc .vmem S4x1024x256 .bf16) (harg35 : arg35.IsWhole) (arg36 : Memref sig .tc .vmem S4x1024x256 .bf16) (harg36 : arg36.IsWhole) (arg37 : Memref sig .tc .vmem S4x1024x256 .bf16) (harg37 : arg37.IsWhole) (hc0 : ¬cond0_0 i)
    (x0 : Vec F S256x512 .f32) (x1 : Vec F S1x512 .f32) (x2 : Vec F S1x512 .f32) (x3 : Vec F S128x512 .f32) (x4 : Vec F S1x128 .f32) (x5 : Vec F S1x128 .f32) (x6 : Vec F S1x128 .f32) (x7 : Vec F S256x128 .f32) (x8 : Vec F S1x256 .f32) (x9 : Vec F S1x256 .f32) (x10 : Vec F S1x256 .f32) (x11 : Vec F S256x256 .f32) (x12 : Vec F S1x256 .f32) (x13 : Vec F S256x256 .f32) (x14 : Vec F S1x256 .f32) (x15 : Vec F S1x256 .f32) (x16 : Vec F S1x256 .f32) (x17 : Vec F S128x256 .f32) (x18 : Vec F S1x128 .f32) (x19 : Vec F S1x128 .f32) (x20 : Vec F S1x128 .f32) (x21 : Vec F S512x128 .f32) (x22 : Vec F S1x512 .f32) (x23 : Vec F S4x1024x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
    intro E K
    simp only [cc0__body_eq_skeleton]; unfold cc0__body_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Whole

end
-- ==== Proof.KernelFrame.lean ====
/- The rounded kernel runs to its end, its arguments unchanged and its semaphores at zero. -/
module

public import proofs.«01_k».proof.Proof.KernelRunB
public import Idealize.ShloMosaic.Lib.Claim

@[expose] public section

set_option maxRecDepth 16384
set_option maxHeartbeats 8000000

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The nine output windows, of whose contents the frame says nothing. -/
def forgets0 : Fin 33 → Bool := fun w => w.val == 24 || w.val == 25 || w.val == 26 || w.val == 27 || w.val == 28 || w.val == 29 || w.val == 30 || w.val == 31 || w.val == 32

/-- What the pipeline's windows hold after each step: an input its block, an output something unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨31, h⟩ => Pipeline.Dat.unnamed (cfg := cfg0) ⟨31, h⟩ t
    | ⟨32, h⟩ => Pipeline.Dat.unnamed (cfg := cfg0) ⟨32, h⟩ t
    | ⟨_ + 33, h⟩ => absurd h (Nat.not_lt.2 (Nat.le_add_left _ _))
  Φ _ := Pipeline.ΦA spec0 c
  q _ := fullShare
  owed _ := 0

/-- The arrays behind the windows are those found at the launch. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]

/-- An input's staging buffer holds its block at every step. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body finds at step `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d)
    ∗ (∃ d, owns (c : Thread nD τ) (ms0_31 t) fullShare d)
    ∗ (∃ d, owns (c : Thread nD τ) (ms0_32 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d)
    ∗ (∃ d, owns (c : Thread nD τ) (ms0_31 t) fullShare d)
    ∗ (∃ d, owns (c : Thread nD τ) (ms0_32 t) fullShare d))

set_option maxHeartbeats 8000000 in
/-- The body at any step: the first one and the later ones by their two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  have hN : t.val < 4 := lt_of_lt_of_eq t.isLt (show cfg0.N = 4 from N_0)
  by_cases h0 : t.val % 4 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, H23, H24, H25, H26, H27, H28, H29, H30, H31, H32, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    iexact H32
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, H23, H24, H25, H26, H27, H28, H29, H30, H31, H32, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    iexact H32

/-- The body the pipeline calls at step `t`, with its buffers written out. -/
theorem defs₀_row (t : Fin cfg0.N) :
    defs₀ (F := F) .tc cfg0.body (cfg0.bodyArgs t (cfg0.slots t)) = bodyAt0 t := by
  unfold defs₀; rw [Defs.onTc_tc]

/-- So every step does what the pipeline asks of it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The whole kernel runs, its input arrays unchanged and its semaphores at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (fun c => (dats m 0 c).toRForget forgets0) (A_eq m) (run_main m ρ)

/-- The frame: the argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (unchanged m ρ) ((θ_run defs _ _).mono (fun _ h => h.2) (run_main_quiescent m ρ))

end Cert.Kernel.Whole

end
-- ==== Proof.Vals.lean ====
/- The kernel's values as named functions of one block of rows: the encoder, one level of the residual
   quantiser, the decoder, the squared lengths of the codebook rows and the three parts of the codebooks.
   The skeleton cuts each level at other places; the theorems here put the pieces together again. -/
module

public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen Idealize.ShloMosaic Idealize.SL.Sem

variable {F : FTy → Type} [FloatOps F]

/-- The rows of a block with the masked entries and, in block 0, row 0 set to zero, plus the positional row. -/
def maskedK (i : grid0.Coords) (x : Vec F S256x512 .f32) (m pos : Vec F S1x512 .f32) : FVec F S256x512 .f32 :=
  addf
    (select
      (broadcastTo S256x512 (shapeCast S256x1
        (cmpi .eq (addi (iota .tc S256x1 32 [0] iota_S256x1_d0_w32) (broadcast S256x1 (Scalar.muli (BitVec.ofNat 32 (i 0).val) 256#32)))
          (broadcast S256x1 0#32)) shapeCasts_S256x1_S256x1) broadcasts_S256x1_S256x512)
      (broadcast S256x512 (Scalar.ofBits .f32 0x00000000#32))
      (select
        (broadcastTo S256x512 (shapeCast S1x512
          (cmpf .ogt (shapeCast S1x512 m shapeCasts_S1x512_S1x512) (broadcast S1x512 (Scalar.ofBits .f32 0x3F000000#32)))
          shapeCasts_S1x512_S1x512) broadcasts_S1x512_S256x512)
        (broadcast S256x512 (Scalar.ofBits .f32 0x00000000#32)) x))
    (broadcastTo S256x512 pos broadcasts_S1x512_S256x512)

/-- A 128-wide row repeated on the rows of a block. -/
def row128K (b : Vec F S1x128 .f32) : FVec F S256x128 .f32 :=
  broadcastTo S256x128 (shapeCast S1x128 b shapeCasts_S1x128_S1x128) broadcasts_S1x128_S256x128

/-- A 256-wide row repeated on the rows of a block. -/
def row256K (b : Vec F S1x256 .f32) : FVec F S256x256 .f32 :=
  broadcastTo S256x256 (shapeCast S1x256 b shapeCasts_S1x256_S1x256) broadcasts_S1x256_S256x256

/-- The batch norm and relu of a block, 128 wide. -/
def norm128K (h : FVec F S256x128 .f32) (g be : Vec F S1x128 .f32) : FVec F S256x128 .f32 :=
  maximumf (addf (mulf (divf h (broadcast S256x128 (Scalar.sqrt (Scalar.ofBits .f32 0x3F800054#32)))) (row128K g)) (row128K be))
    (broadcast S256x128 (Scalar.ofBits .f32 0x00000000#32))

/-- The batch norm and relu of a block, 256 wide. -/
def norm256K (h : FVec F S256x256 .f32) (g be : Vec F S1x256 .f32) : FVec F S256x256 .f32 :=
  maximumf (addf (mulf (divf h (broadcast S256x256 (Scalar.sqrt (Scalar.ofBits .f32 0x3F800054#32)))) (row256K g)) (row256K be))
    (broadcast S256x256 (Scalar.ofBits .f32 0x00000000#32))

/-- The 512 to 128 linear layer of a block. -/
def lin512_128K (x : FVec F S256x512 .f32) (w : Vec F S128x512 .f32) (b : Vec F S1x128 .f32) : FVec F S256x128 .f32 :=
  addf (matmul dot_S256x512_S128x512_S256x128_1_1_0_0_n_n none x w (constant S256x128 .f32 0x00000000#32)) (row128K b)

/-- The 128 to 256 linear layer of a block. -/
def lin128_256K (x : FVec F S256x128 .f32) (w : Vec F S256x128 .f32) (b : Vec F S1x256 .f32) : FVec F S256x256 .f32 :=
  addf (matmul dot_S256x128_S256x128_S256x256_1_1_0_0_n_n none x w (constant S256x256 .f32 0x00000000#32)) (row256K b)

/-- The 256 to 256 linear layer of a block. -/
def lin256_256K (x : FVec F S256x256 .f32) (w : Vec F S256x256 .f32) (b : Vec F S1x256 .f32) : FVec F S256x256 .f32 :=
  addf (matmul dot_S256x256_S256x256_S256x256_1_1_0_0_n_n none x w (constant S256x256 .f32 0x00000000#32)) (row256K b)

/-- The 256 to 128 linear layer of a block. -/
def lin256_128K (x : FVec F S256x256 .f32) (w : Vec F S128x256 .f32) (b : Vec F S1x128 .f32) : FVec F S256x128 .f32 :=
  addf (matmul dot_S256x256_S128x256_S256x128_1_1_0_0_n_n none x w (constant S256x128 .f32 0x00000000#32)) (row128K b)

/-- The 128 to 512 linear layer of a block. -/
def lin128_512K (x : FVec F S256x128 .f32) (w : Vec F S512x128 .f32) (b : Vec F S1x512 .f32) : FVec F S256x512 .f32 :=
  addf (matmul dot_S256x128_S512x128_S256x512_1_1_0_0_n_n none x w (constant S256x512 .f32 0x00000000#32))
    (broadcastTo S256x512 (shapeCast S1x512 b shapeCasts_S1x512_S1x512) broadcasts_S1x512_S256x512)

/-- The encoder of a block. -/
def encodeK (i : grid0.Coords) (x : Vec F S256x512 .f32) (m pos : Vec F S1x512 .f32) (w1 : Vec F S128x512 .f32)
    (b1 g1 e1 : Vec F S1x128 .f32) (w2 : Vec F S256x128 .f32) (b2 g2 e2 : Vec F S1x256 .f32) (w3 : Vec F S256x256 .f32)
    (b3 : Vec F S1x256 .f32) : FVec F S256x256 .f32 :=
  lin256_256K (norm256K (lin128_256K (norm128K (lin512_128K (maskedK i x m pos) w1 b1) g1 e1) w2 b2) g2 e2) w3 b3

/-- The decoder of a block, from the encoding and the codebook rows' sum. -/
def decodeK (z s c : FVec F S256x256 .f32) (w1 : Vec F S256x256 .f32) (b1 g1 e1 : Vec F S1x256 .f32)
    (w2 : Vec F S128x256 .f32) (b2 g2 e2 : Vec F S1x128 .f32) (w3 : Vec F S512x128 .f32) (b3 : Vec F S1x512 .f32) : FVec F S256x512 .f32 :=
  lin128_512K (norm128K (lin256_128K (norm256K (lin256_256K (addf z (subf (addf s c) z)) w1 b1) g1 e1) w2 b2) g2 e2) w3 b3

/-- The column numbers 0 to 1023, on every row of a block. -/
def colsK : IVec S256x1024 32 := iota .tc S256x1024 32 [1] iota_S256x1024_d1_w32

/-- The sum over the groups 0 to 30 of eight neighbouring columns. -/
def lanesK (s : FVec F S256x256 .f32) : FVec F S256x8 .f32 :=
  k0_pay24 s (extractStridedSlice S256x8 ![0, 0] s slices_S256x256_o0_0_S256x8) (extractStridedSlice S256x8 ![0, 8] s slices_S256x256_o0_8_S256x8)

/-- The one-hot rows marking the nearest codebook row of each residual row. -/
def onehotK (r : FVec F S256x256 .f32) (cb : Vec F S1x1024x256 .f32) (e : Vec F S1x1024 .f32) : FVec F S256x1024 .bf16 :=
  k0_pay26 r colsK (k0_pay20 cb) (lanesK (mulf r r)) (k0_pay25 (mulf r r)) e

/-- The codebook rows picked by one-hot rows out of the three parts of a codebook. -/
def pickK (oh : FVec F S256x1024 .bf16) (hi mid lo : Vec F S1x1024x256 .bf16) : FVec F S256x256 .f32 :=
  k0_pay36 oh hi mid lo

/-- One level of the quantiser: the nearest codebook rows of a block of residuals. -/
def stepK (r : FVec F S256x256 .f32) (cb : Vec F S1x1024x256 .f32) (e : Vec F S1x1024 .f32) (hi mid lo : Vec F S1x1024x256 .bf16) : FVec F S256x256 .f32 :=
  pickK (onehotK r cb e) hi mid lo

/-- The skeleton's pieces of the encoder make `encodeK`. -/
theorem encode_eq (i : grid0.Coords) (x : Vec F S256x512 .f32) (m pos : Vec F S1x512 .f32) (w1 : Vec F S128x512 .f32)
    (b1 g1 e1 : Vec F S1x128 .f32) (w2 : Vec F S256x128 .f32) (b2 g2 e2 : Vec F S1x256 .f32) (w3 : Vec F S256x256 .f32) (b3 : Vec F S1x256 .f32) :
    k0_pay17 (k0_pay15 i x m pos w1 b1 g1) (k0_pay16 e1) w2 b2 g2 e2 w3 b3 = encodeK i x m pos w1 b1 g1 e1 w2 b2 g2 e2 w3 b3 := rfl

/-- The skeleton's pieces of the decoder make `decodeK`. -/
theorem decode_eq (z s c : FVec F S256x256 .f32) (w1 : Vec F S256x256 .f32) (b1 g1 e1 : Vec F S1x256 .f32)
    (w2 : Vec F S128x256 .f32) (b2 g2 e2 : Vec F S1x128 .f32) (w3 : Vec F S512x128 .f32) (b3 : Vec F S1x512 .f32) :
    k0_pay1 (k0_pay52 z s c w1 b1 g1 e1 w2 b2) (k0_pay53 g2) (k0_pay54 e2) k0_pay55 w3 b3 = decodeK z s c w1 b1 g1 e1 w2 b2 g2 e2 w3 b3 := rfl

section
variable (v36 v37 : FVec F S256x128 .f32) (v41 : Vec F S256x128 .f32) (v43 v47 v49 : Vec F S1x256 .f32) (v60 : Vec F S256x256 .f32) (v62 : Vec F S1x256 .f32)
variable (cb : Vec F S1x1024x256 .f32) (e : Vec F S1x1024 .f32) (hi mid lo : Vec F S1x1024x256 .bf16)

/-- The first two parts of level 1, over the encoder's value. -/
theorem hiMid1_eq : k0_pay27 (k0_pay17 v36 v37 v41 v43 v47 v49 v60 v62) colsK (k0_pay20 cb)
      (k0_pay24 (k0_pay21 v36 v37 v41 v43 v47 v49 v60 v62) (k0_pay22 v36 v37 v41 v43 v47 v49 v60 v62) (k0_pay23 v36 v37 v41 v43 v47 v49 v60 v62))
      (k0_pay25 (k0_pay21 v36 v37 v41 v43 v47 v49 v60 v62)) e hi mid
    = k0_pay27 (k0_pay17 v36 v37 v41 v43 v47 v49 v60 v62) colsK (k0_pay20 cb)
        (lanesK (mulf (k0_pay17 v36 v37 v41 v43 v47 v49 v60 v62) (k0_pay17 v36 v37 v41 v43 v47 v49 v60 v62)))
        (k0_pay25 (mulf (k0_pay17 v36 v37 v41 v43 v47 v49 v60 v62) (k0_pay17 v36 v37 v41 v43 v47 v49 v60 v62))) e hi mid := rfl

/-- The third part of level 1, over the encoder's value. -/
theorem lo1_eq : k0_pay28 (k0_pay17 v36 v37 v41 v43 v47 v49 v60 v62) colsK (k0_pay20 cb)
      (k0_pay24 (k0_pay21 v36 v37 v41 v43 v47 v49 v60 v62) (k0_pay22 v36 v37 v41 v43 v47 v49 v60 v62) (k0_pay23 v36 v37 v41 v43 v47 v49 v60 v62))
      (k0_pay25 (k0_pay21 v36 v37 v41 v43 v47 v49 v60 v62)) e lo
    = k0_pay28 (k0_pay17 v36 v37 v41 v43 v47 v49 v60 v62) colsK (k0_pay20 cb)
        (lanesK (mulf (k0_pay17 v36 v37 v41 v43 v47 v49 v60 v62) (k0_pay17 v36 v37 v41 v43 v47 v49 v60 v62)))
        (k0_pay25 (mulf (k0_pay17 v36 v37 v41 v43 v47 v49 v60 v62) (k0_pay17 v36 v37 v41 v43 v47 v49 v60 v62))) e lo := rfl
end

section
variable (z r v172 v175 s : FVec F S256x256 .f32) (oh : FVec F S256x1024 .bf16) (d : FVec F S256x1024 .f32)
variable (cb : Vec F S1x1024x256 .f32) (e : Vec F S1x1024 .f32) (hi mid lo hi' mid' lo' : Vec F S1x1024x256 .bf16)

/-- Level 1's picked rows. -/
theorem pick1_eq : k0_pay29 (k0_pay27 z colsK (k0_pay20 cb) (lanesK (mulf z z)) (k0_pay25 (mulf z z)) e hi mid)
      (k0_pay28 z colsK (k0_pay20 cb) (lanesK (mulf z z)) (k0_pay25 (mulf z z)) e lo) = stepK z cb e hi mid lo := rfl

/-- Level 1's residual. -/
theorem rest1_eq : k0_pay30 z v172 v175 = subf z (k0_pay29 v172 v175) := rfl

/-- Level 2's one-hot rows. -/
theorem onehot2_eq : k0_pay35 colsK (k0_pay30 z v172 v175) (k0_pay31 cb) (k0_pay32 z v172 v175) (k0_pay33 z v172 v175) (k0_pay34 z v172 v175) e
    = onehotK (k0_pay30 z v172 v175) cb e := rfl

/-- Level 2's running sum of picked rows. -/
theorem sum2_eq : k0_pay37 s oh hi mid lo = addf s (pickK oh hi mid lo) := rfl

/-- Level 2's residual. -/
theorem rest2_eq : k0_pay38 r oh hi mid lo = subf r (pickK oh hi mid lo) := rfl

/-- Level 3's picked rows. -/
theorem pick3_eq : k0_pay43 colsK (k0_pay42 (k0_pay38 r oh hi mid lo) (k0_pay39 cb) (k0_pay40 r oh hi mid lo) (k0_pay41 r oh hi mid lo) e) hi' mid' lo'
    = stepK (k0_pay38 r oh hi mid lo) cb e hi' mid' lo' := rfl

/-- Level 3's running sum. -/
theorem sum3_eq : k0_pay44 colsK s d hi mid lo = addf s (k0_pay43 colsK d hi mid lo) := rfl

/-- Level 3's residual. -/
theorem rest3_eq : k0_pay45 colsK r d hi mid lo = subf r (k0_pay43 colsK d hi mid lo) := rfl

/-- Level 4's picked rows. -/
theorem pick4_eq : k0_pay51 colsK (k0_pay45 colsK r d hi mid lo) (k0_pay46 cb)
      (k0_pay50 (k0_pay47 colsK r d hi mid lo) (k0_pay48 colsK r d hi mid lo) (k0_pay49 colsK r d hi mid lo)) e hi' mid' lo'
    = stepK (k0_pay45 colsK r d hi mid lo) cb e hi' mid' lo' := rfl
end

/-- The squared lengths of a codebook's rows, laid out as one row. -/
def lengthsK (cb : Vec F S1x1024x256 .f32) : FVec F S1x1024 .f32 := k0_pay3 cb

/-- The squared lengths written for codebook 1. -/
theorem lengths1_eq (cb : Vec F S1x1024x256 .f32) : k0_pay7 k0_pay2 (k0_pay5 cb) (k0_pay6 cb) = lengthsK cb := rfl

/-- The squared lengths written for codebook 2. -/
theorem lengths2_eq (cb : Vec F S1x1024x256 .f32) : k0_pay8 k0_pay2 cb = lengthsK cb := rfl

/-- The squared lengths written for codebook 3. -/
theorem lengths3_eq (cb : Vec F S1x1024x256 .f32) : k0_pay9 k0_pay2 cb = lengthsK cb := rfl

/-- The first part of the codebooks. -/
def hiK (v : Vec F S4x1024x256 .f32) : FVec F S4x1024x256 .bf16 := k0_pay13 v
/-- The second part of the codebooks. -/
def midK (v : Vec F S4x1024x256 .f32) : FVec F S4x1024x256 .bf16 := k0_pay18 (k0_pay14 v)
/-- The third part of the codebooks. -/
def loK (v : Vec F S4x1024x256 .f32) : FVec F S4x1024x256 .bf16 := k0_pay19 (k0_pay11 v) (k0_pay12 v)

/-- The blocks the body reads at one grid step, in the order of its windows. -/
structure Ins (F : FTy → Type) where
  x0 : Vec F S256x512 .f32
  x1 : Vec F S1x512 .f32
  x2 : Vec F S1x512 .f32
  x3 : Vec F S128x512 .f32
  x4 : Vec F S1x128 .f32
  x5 : Vec F S1x128 .f32
  x6 : Vec F S1x128 .f32
  x7 : Vec F S256x128 .f32
  x8 : Vec F S1x256 .f32
  x9 : Vec F S1x256 .f32
  x10 : Vec F S1x256 .f32
  x11 : Vec F S256x256 .f32
  x12 : Vec F S1x256 .f32
  x13 : Vec F S256x256 .f32
  x14 : Vec F S1x256 .f32
  x15 : Vec F S1x256 .f32
  x16 : Vec F S1x256 .f32
  x17 : Vec F S128x256 .f32
  x18 : Vec F S1x128 .f32
  x19 : Vec F S1x128 .f32
  x20 : Vec F S1x128 .f32
  x21 : Vec F S512x128 .f32
  x22 : Vec F S1x512 .f32
  x23 : Vec F S4x1024x256 .f32

/-- What one level of the quantiser reads: the codebook, its rows' squared lengths and its three parts. -/
structure Level (F : FTy → Type) where
  cb : Vec F S1x1024x256 .f32
  e : Vec F S1x1024 .f32
  hi : Vec F S1x1024x256 .bf16
  mid : Vec F S1x1024x256 .bf16
  lo : Vec F S1x1024x256 .bf16

/-- Codebook `k` of the four. -/
def book {α : Type} (k : Fin 4) (x : S4x1024x256.Idx → α) : S1x1024x256.Idx → α := fun y => x (ix3 k (y 1) (y 2))

/-- The four levels' inputs as the body lays them out at the first grid step. -/
def levels (cbs : Vec F S4x1024x256 .f32) (k : Fin 4) : Level F :=
  ⟨book k cbs, lengthsK (book k cbs), book k (hiK cbs), book k (midK cbs), book k (loK cbs)⟩

/-- The encoding at one grid step. -/
def zV (i : grid0.Coords) (X : Ins F) : FVec F S256x256 .f32 :=
  k0_pay17 (k0_pay15 i X.x0 X.x1 X.x2 X.x3 X.x4 X.x5) (k0_pay16 X.x6) X.x7 X.x8 X.x9 X.x10 X.x11 X.x12

/-- The first two parts of level 1's picked rows. -/
def hiMid1V (i : grid0.Coords) (X : Ins F) (L : Fin 4 → Level F) : FVec F S256x256 .f32 :=
  k0_pay27 (zV i X) colsK (k0_pay20 (L 0).cb)
    (k0_pay24 (k0_pay21 (k0_pay15 i X.x0 X.x1 X.x2 X.x3 X.x4 X.x5) (k0_pay16 X.x6) X.x7 X.x8 X.x9 X.x10 X.x11 X.x12)
      (k0_pay22 (k0_pay15 i X.x0 X.x1 X.x2 X.x3 X.x4 X.x5) (k0_pay16 X.x6) X.x7 X.x8 X.x9 X.x10 X.x11 X.x12)
      (k0_pay23 (k0_pay15 i X.x0 X.x1 X.x2 X.x3 X.x4 X.x5) (k0_pay16 X.x6) X.x7 X.x8 X.x9 X.x10 X.x11 X.x12))
    (k0_pay25 (k0_pay21 (k0_pay15 i X.x0 X.x1 X.x2 X.x3 X.x4 X.x5) (k0_pay16 X.x6) X.x7 X.x8 X.x9 X.x10 X.x11 X.x12)) (L 0).e (L 0).hi (L 0).mid

/-- The third part of level 1's picked rows. -/
def lo1V (i : grid0.Coords) (X : Ins F) (L : Fin 4 → Level F) : FVec F S256x256 .f32 :=
  k0_pay28 (zV i X) colsK (k0_pay20 (L 0).cb)
    (k0_pay24 (k0_pay21 (k0_pay15 i X.x0 X.x1 X.x2 X.x3 X.x4 X.x5) (k0_pay16 X.x6) X.x7 X.x8 X.x9 X.x10 X.x11 X.x12)
      (k0_pay22 (k0_pay15 i X.x0 X.x1 X.x2 X.x3 X.x4 X.x5) (k0_pay16 X.x6) X.x7 X.x8 X.x9 X.x10 X.x11 X.x12)
      (k0_pay23 (k0_pay15 i X.x0 X.x1 X.x2 X.x3 X.x4 X.x5) (k0_pay16 X.x6) X.x7 X.x8 X.x9 X.x10 X.x11 X.x12))
    (k0_pay25 (k0_pay21 (k0_pay15 i X.x0 X.x1 X.x2 X.x3 X.x4 X.x5) (k0_pay16 X.x6) X.x7 X.x8 X.x9 X.x10 X.x11 X.x12)) (L 0).e (L 0).lo

/-- Level 1's picked rows. -/
def c0V (i : grid0.Coords) (X : Ins F) (L : Fin 4 → Level F) : FVec F S256x256 .f32 := k0_pay29 (hiMid1V i X L) (lo1V i X L)

/-- The residual after level 1. -/
def r1V (i : grid0.Coords) (X : Ins F) (L : Fin 4 → Level F) : FVec F S256x256 .f32 := k0_pay30 (zV i X) (hiMid1V i X L) (lo1V i X L)

/-- Level 2's one-hot rows. -/
def onehot2V (i : grid0.Coords) (X : Ins F) (L : Fin 4 → Level F) : FVec F S256x1024 .bf16 :=
  k0_pay35 colsK (r1V i X L) (k0_pay31 (L 1).cb) (k0_pay32 (zV i X) (hiMid1V i X L) (lo1V i X L))
    (k0_pay33 (zV i X) (hiMid1V i X L) (lo1V i X L)) (k0_pay34 (zV i X) (hiMid1V i X L) (lo1V i X L)) (L 1).e

/-- Level 2's picked rows. -/
def c1V (i : grid0.Coords) (X : Ins F) (L : Fin 4 → Level F) : FVec F S256x256 .f32 := k0_pay36 (onehot2V i X L) (L 1).hi (L 1).mid (L 1).lo

/-- The running sum of picked rows after level 2. -/
def s1V (i : grid0.Coords) (X : Ins F) (L : Fin 4 → Level F) : FVec F S256x256 .f32 := k0_pay37 (c0V i X L) (onehot2V i X L) (L 1).hi (L 1).mid (L 1).lo

/-- The residual after level 2. -/
def r2V (i : grid0.Coords) (X : Ins F) (L : Fin 4 → Level F) : FVec F S256x256 .f32 := k0_pay38 (r1V i X L) (onehot2V i X L) (L 1).hi (L 1).mid (L 1).lo

/-- Level 3's distances. -/
def d3V (i : grid0.Coords) (X : Ins F) (L : Fin 4 → Level F) : FVec F S256x1024 .f32 :=
  k0_pay42 (r2V i X L) (k0_pay39 (L 2).cb) (k0_pay40 (r1V i X L) (onehot2V i X L) (L 1).hi (L 1).mid (L 1).lo)
    (k0_pay41 (r1V i X L) (onehot2V i X L) (L 1).hi (L 1).mid (L 1).lo) (L 2).e

/-- Level 3's picked rows. -/
def c2V (i : grid0.Coords) (X : Ins F) (L : Fin 4 → Level F) : FVec F S256x256 .f32 := k0_pay43 colsK (d3V i X L) (L 2).hi (L 2).mid (L 2).lo

/-- The running sum of picked rows after level 3. -/
def s2V (i : grid0.Coords) (X : Ins F) (L : Fin 4 → Level F) : FVec F S256x256 .f32 := k0_pay44 colsK (s1V i X L) (d3V i X L) (L 2).hi (L 2).mid (L 2).lo

/-- The residual after level 3. -/
def r3V (i : grid0.Coords) (X : Ins F) (L : Fin 4 → Level F) : FVec F S256x256 .f32 := k0_pay45 colsK (r2V i X L) (d3V i X L) (L 2).hi (L 2).mid (L 2).lo

/-- Level 4's picked rows. -/
def c3V (i : grid0.Coords) (X : Ins F) (L : Fin 4 → Level F) : FVec F S256x256 .f32 :=
  k0_pay51 colsK (r3V i X L) (k0_pay46 (L 3).cb)
    (k0_pay50 (k0_pay47 colsK (r2V i X L) (d3V i X L) (L 2).hi (L 2).mid (L 2).lo)
      (k0_pay48 colsK (r2V i X L) (d3V i X L) (L 2).hi (L 2).mid (L 2).lo)
      (k0_pay49 colsK (r2V i X L) (d3V i X L) (L 2).hi (L 2).mid (L 2).lo)) (L 3).e (L 3).hi (L 3).mid (L 3).lo

/-- The reconstruction. -/
def xhatV (i : grid0.Coords) (X : Ins F) (L : Fin 4 → Level F) : FVec F S256x512 .f32 :=
  k0_pay1 (k0_pay52 (zV i X) (s2V i X L) (c3V i X L) X.x13 X.x14 X.x15 X.x16 X.x17 X.x18) (k0_pay53 X.x19) (k0_pay54 X.x20) k0_pay55 X.x21 X.x22

/-- One level of the quantiser over a level's inputs. -/
def levelK (r : FVec F S256x256 .f32) (l : Level F) : FVec F S256x256 .f32 := stepK r l.cb l.e l.hi l.mid l.lo

section
variable (i : grid0.Coords) (X : Ins F) (L : Fin 4 → Level F)

/-- The encoding is the encoder's value. -/
theorem zV_eq : zV i X = encodeK i X.x0 X.x1 X.x2 X.x3 X.x4 X.x5 X.x6 X.x7 X.x8 X.x9 X.x10 X.x11 X.x12 := rfl

/-- Level 1's picked rows are one quantiser level of the encoding. -/
theorem c0V_eq : c0V i X L = levelK (zV i X) (L 0) :=
  (congrArg₂ k0_pay29 (hiMid1_eq _ _ _ _ _ _ _ _ _ _ _ _) (lo1_eq _ _ _ _ _ _ _ _ _ _ _)).trans (pick1_eq _ _ _ _ _ _)

/-- The residual after level 1. -/
theorem r1V_eq : r1V i X L = subf (zV i X) (c0V i X L) := rest1_eq _ _ _

/-- Level 2's picked rows. -/
theorem c1V_eq : c1V i X L = levelK (r1V i X L) (L 1) :=
  congrArg (fun o => k0_pay36 o (L 1).hi (L 1).mid (L 1).lo) (onehot2_eq _ _ _ _ _)

/-- The sum after level 2. -/
theorem s1V_eq : s1V i X L = addf (c0V i X L) (c1V i X L) := sum2_eq _ _ _ _ _

/-- The residual after level 2. -/
theorem r2V_eq : r2V i X L = subf (r1V i X L) (c1V i X L) := rest2_eq _ _ _ _ _

/-- Level 3's picked rows. -/
theorem c2V_eq : c2V i X L = levelK (r2V i X L) (L 2) := pick3_eq _ _ _ _ _ _ _ _ _ _

/-- The sum after level 3. -/
theorem s2V_eq : s2V i X L = addf (s1V i X L) (c2V i X L) := sum3_eq _ _ _ _ _

/-- The residual after level 3. -/
theorem r3V_eq : r3V i X L = subf (r2V i X L) (c2V i X L) := rest3_eq _ _ _ _ _

/-- Level 4's picked rows. -/
theorem c3V_eq : c3V i X L = levelK (r3V i X L) (L 3) := pick4_eq _ _ _ _ _ _ _ _ _ _

/-- The reconstruction is the decoder's value. -/
theorem xhatV_eq : xhatV i X L = decodeK (zV i X) (addf (addf (c0V i X L) (c1V i X L)) (c2V i X L)) (c3V i X L)
    X.x13 X.x14 X.x15 X.x16 X.x17 X.x18 X.x19 X.x20 X.x21 X.x22 := by
  rw [← s1V_eq, ← s2V_eq]
  exact decode_eq _ _ _ _ _ _ _ _ _ _ _ _ _
end

end Cert.KernelIdeal.Val

end
-- ==== Proof.Reads.lean ====
/- What the body's loads read: one codebook of four, one row of the squared lengths, after the stores of
   the first grid step or from contents kept from it. -/
module

public import proofs.«01_k».proof.Proof.Vals
public import Idealize.ShloMosaic.Lib.VecWindow

@[expose] public section

noncomputable section

namespace Cert.KernelIdeal.Val

open Cert.KernelIdeal Cert.KernelIdeal.Gen Idealize.ShloMosaic Idealize.SL.Sem

variable {κ : Kind} {sp : Space} {e : EltTy} {Val : EltTy → Type}

/-- Row `k` of the squared lengths' buffer. -/
def row {α : Type} (k : Fin 4) (x : S8x1024.Idx → α) : S1x1024.Idx → α := fun y => x (ix2 (⟨k.val, by omega⟩ : Fin 8) (y 1))

/-- The window of one codebook is that codebook. -/
theorem window_book {α : Type} (k : Fin 4) (x : S4x1024x256.Idx → α) (off : Fin 3 → ℕ) (h : off = ![k.val, 0, 0])
    (inb : ∀ a, off a + S1x1024x256.size a ≤ S4x1024x256.size a) :
    VecWindow.window x off S1x1024x256.size inb = book k x := by
  subst h
  funext y
  refine congrArg x (funext fun a => Fin.ext ?_)
  match a with
  | ⟨0, _⟩ =>
    have : (y 0).val < 1 := (y 0).isLt
    show k.val + 1 * (y 0).val = k.val
    omega
  | ⟨1, _⟩ => show 0 + 1 * (y 1).val = (y 1).val; omega
  | ⟨2, _⟩ => show 0 + 1 * (y 2).val = (y 2).val; omega

/-- The window of one row of the squared lengths is that row. -/
theorem window_row {α : Type} (k : Fin 4) (x : S8x1024.Idx → α) (off : Fin 2 → ℕ) (h : off = ![k.val, 0])
    (inb : ∀ a, off a + S1x1024.size a ≤ S8x1024.size a) :
    VecWindow.window x off S1x1024.size inb = row k x := by
  subst h
  funext y
  refine congrArg x (funext fun a => Fin.ext ?_)
  match a with
  | ⟨0, _⟩ =>
    have : (y 0).val < 1 := (y 0).isLt
    show k.val + 1 * (y 0).val = k.val
    omega
  | ⟨1, _⟩ => show 0 + 1 * (y 1).val = (y 1).val; omega

section
variable (v : View sig κ sp S4x1024x256 e) (f : v.ty.Contents Val)

/-- A load of codebook 0. -/
theorem readAt_book0 (inb : ∀ a, (![0, 0, 0] : Fin 3 → ℕ) a + S1x1024x256.size a ≤ S4x1024x256.size a) :
    v.readAt Val (Rect.unit (s := S4x1024x256) ![0, 0, 0] S1x1024x256.size inb).toLoadRect f = book 0 (v.read Val f) :=
  (View.readAt_unit v f inb rfl inb).trans (window_book 0 _ _ rfl inb)

/-- A load of codebook 1. -/
theorem readAt_book1 (inb : ∀ a, (![1, 0, 0] : Fin 3 → ℕ) a + S1x1024x256.size a ≤ S4x1024x256.size a) :
    v.readAt Val (Rect.unit (s := S4x1024x256) ![1, 0, 0] S1x1024x256.size inb).toLoadRect f = book 1 (v.read Val f) :=
  (View.readAt_unit v f inb rfl inb).trans (window_book 1 _ _ rfl inb)

/-- A load of codebook 2. -/
theorem readAt_book2 (inb : ∀ a, (![2, 0, 0] : Fin 3 → ℕ) a + S1x1024x256.size a ≤ S4x1024x256.size a) :
    v.readAt Val (Rect.unit (s := S4x1024x256) ![2, 0, 0] S1x1024x256.size inb).toLoadRect f = book 2 (v.read Val f) :=
  (View.readAt_unit v f inb rfl inb).trans (window_book 2 _ _ rfl inb)

/-- A load of codebook 3. -/
theorem readAt_book3 (inb : ∀ a, (![3, 0, 0] : Fin 3 → ℕ) a + S1x1024x256.size a ≤ S4x1024x256.size a) :
    v.readAt Val (Rect.unit (s := S4x1024x256) ![3, 0, 0] S1x1024x256.size inb).toLoadRect f = book 3 (v.read Val f) :=
  (View.readAt_unit v f inb rfl inb).trans (window_book 3 _ _ rfl inb)
end

section
variable (v : View sig κ sp S8x1024 e) (f : v.ty.Contents Val)

/-- A load of row 0 of the squared lengths. -/
theorem readAt_row0 (inb : ∀ a, (![0, 0] : Fin 2 → ℕ) a + S1x1024.size a ≤ S8x1024.size a) :
    v.readAt Val (Rect.unit (s := S8x1024) ![0, 0] S1x1024.size inb).toLoadRect f = row 0 (v.read Val f) :=
  (View.readAt_unit v f inb rfl inb).trans (window_row 0 _ _ rfl inb)

/-- A load of row 1 of the squared lengths. -/
theorem readAt_row1 (inb : ∀ a, (![1, 0] : Fin 2 → ℕ) a + S1x1024.size a ≤ S8x1024.size a) :
    v.readAt Val (Rect.unit (s := S8x1024) ![1, 0] S1x1024.size inb).toLoadRect f = row 1 (v.read Val f) :=
  (View.readAt_unit v f inb rfl inb).trans (window_row 1 _ _ rfl inb)

/-- A load of row 2 of the squared lengths. -/
theorem readAt_row2 (inb : ∀ a, (![2, 0] : Fin 2 → ℕ) a + S1x1024.size a ≤ S8x1024.size a) :
    v.readAt Val (Rect.unit (s := S8x1024) ![2, 0] S1x1024.size inb).toLoadRect f = row 2 (v.read Val f) :=
  (View.readAt_unit v f inb rfl inb).trans (window_row 2 _ _ rfl inb)

/-- A load of row 3 of the squared lengths. -/
theorem readAt_row3 (inb : ∀ a, (![3, 0] : Fin 2 → ℕ) a + S1x1024.size a ≤ S8x1024.size a) :
    v.readAt Val (Rect.unit (s := S8x1024) ![3, 0] S1x1024.size inb).toLoadRect f = row 3 (v.read Val f) :=
  (View.readAt_unit v f inb rfl inb).trans (window_row 3 _ _ rfl inb)

/-- A row written at row `l` is row `l` afterwards and leaves the other rows. -/
theorem row_put {α : Type} (k l : Fin 4) (x : S8x1024.Idx → α) (w : S1x1024.Idx → α) (off : Fin 2 → ℕ) (h : off = ![l.val, 0]) :
    row k (VecWindow.put x off S1x1024.size w) = if k = l then w else row k x := by
  have hk : ∀ a, (![k.val, 0] : Fin 2 → ℕ) a + S1x1024.size a ≤ S8x1024.size a := fun a => by
    match a with
    | ⟨0, _⟩ => show k.val + 1 ≤ 8; omega
    | ⟨1, _⟩ => show 0 + 1024 ≤ 1024; omega
  rw [← window_row k _ _ rfl hk, ← window_row k x _ rfl hk]
  subst h
  split_ifs with e
  · subst e
    exact VecWindow.window_put_same x _ _ hk w
  · refine VecWindow.window_put_of_disjoint x _ _ _ _ hk w 0 ?_
    show k.val + 1 ≤ l.val ∨ l.val + 1 ≤ k.val
    have : k.val ≠ l.val := fun q => e (Fin.ext q)
    omega

/-- The rows the first grid step writes are the buffer's first four rows afterwards. -/
theorem row_writes (w : Fin 4 → S1x1024.Idx → Val e) (k : Fin 4)
    (i0 : ∀ a, (![0, 0] : Fin 2 → ℕ) a + S1x1024.size a ≤ S8x1024.size a) (i1 : ∀ a, (![1, 0] : Fin 2 → ℕ) a + S1x1024.size a ≤ S8x1024.size a)
    (i2 : ∀ a, (![2, 0] : Fin 2 → ℕ) a + S1x1024.size a ≤ S8x1024.size a) (i3 : ∀ a, (![3, 0] : Fin 2 → ℕ) a + S1x1024.size a ≤ S8x1024.size a) :
    row k (v.read Val (v.writes Val f [⟨Rect.unit (s := S8x1024) ![3, 0] S1x1024.size i3, w 3⟩, ⟨Rect.unit (s := S8x1024) ![2, 0] S1x1024.size i2, w 2⟩,
      ⟨Rect.unit (s := S8x1024) ![1, 0] S1x1024.size i1, w 1⟩, ⟨Rect.unit (s := S8x1024) ![0, 0] S1x1024.size i0, w 0⟩])) = w k := by
  rw [View.read_writes_cons_put v f i3 _ _ rfl, View.read_writes_cons_put v f i2 _ _ rfl, View.read_writes_cons_put v f i1 _ _ rfl,
    View.read_writes_cons_put v f i0 _ _ rfl, row_put k 3 _ _ ![3, 0] rfl, row_put k 2 _ _ ![2, 0] rfl, row_put k 1 _ _ ![1, 0] rfl, row_put k 0 _ _ ![0, 0] rfl]
  fin_cases k <;> simp
variable (w0 w1 w2 w3 : S1x1024.Idx → Val e)
  (i0 : ∀ a, (![0, 0] : Fin 2 → ℕ) a + S1x1024.size a ≤ S8x1024.size a) (i1 : ∀ a, (![1, 0] : Fin 2 → ℕ) a + S1x1024.size a ≤ S8x1024.size a) (i2 : ∀ a, (![2, 0] : Fin 2 → ℕ) a + S1x1024.size a ≤ S8x1024.size a) (i3 : ∀ a, (![3, 0] : Fin 2 → ℕ) a + S1x1024.size a ≤ S8x1024.size a)

/-- Row 0 after the first grid step's four rows are written. -/
theorem row_writes0 : row 0 (v.read Val (v.writes Val f [⟨Rect.unit (s := S8x1024) ![3, 0] S1x1024.size i3, w3⟩, ⟨Rect.unit (s := S8x1024) ![2, 0] S1x1024.size i2, w2⟩, ⟨Rect.unit (s := S8x1024) ![1, 0] S1x1024.size i1, w1⟩, ⟨Rect.unit (s := S8x1024) ![0, 0] S1x1024.size i0, w0⟩])) = w0 :=
  row_writes v f ![w0, w1, w2, w3] 0 i0 i1 i2 i3

/-- Row 1 after the first grid step's four rows are written. -/
theorem row_writes1 : row 1 (v.read Val (v.writes Val f [⟨Rect.unit (s := S8x1024) ![3, 0] S1x1024.size i3, w3⟩, ⟨Rect.unit (s := S8x1024) ![2, 0] S1x1024.size i2, w2⟩, ⟨Rect.unit (s := S8x1024) ![1, 0] S1x1024.size i1, w1⟩, ⟨Rect.unit (s := S8x1024) ![0, 0] S1x1024.size i0, w0⟩])) = w1 :=
  row_writes v f ![w0, w1, w2, w3] 1 i0 i1 i2 i3

/-- Row 2 after the first grid step's four rows are written. -/
theorem row_writes2 : row 2 (v.read Val (v.writes Val f [⟨Rect.unit (s := S8x1024) ![3, 0] S1x1024.size i3, w3⟩, ⟨Rect.unit (s := S8x1024) ![2, 0] S1x1024.size i2, w2⟩, ⟨Rect.unit (s := S8x1024) ![1, 0] S1x1024.size i1, w1⟩, ⟨Rect.unit (s := S8x1024) ![0, 0] S1x1024.size i0, w0⟩])) = w2 :=
  row_writes v f ![w0, w1, w2, w3] 2 i0 i1 i2 i3

/-- Row 3 after the first grid step's four rows are written. -/
theorem row_writes3 : row 3 (v.read Val (v.writes Val f [⟨Rect.unit (s := S8x1024) ![3, 0] S1x1024.size i3, w3⟩, ⟨Rect.unit (s := S8x1024) ![2, 0] S1x1024.size i2, w2⟩, ⟨Rect.unit (s := S8x1024) ![1, 0] S1x1024.size i1, w1⟩, ⟨Rect.unit (s := S8x1024) ![0, 0] S1x1024.size i0, w0⟩])) = w3 :=
  row_writes v f ![w0, w1, w2, w3] 3 i0 i1 i2 i3

end

/-- The squared lengths' buffer holds the squared lengths of the four codebooks' rows. -/
def LengthsOk {F : FTy → Type} [FloatOps F] (d : Vec F S8x1024 .f32) (cbs : Vec F S4x1024x256 .f32) : Prop :=
  row 0 d = lengthsK (book 0 cbs) ∧ row 1 d = lengthsK (book 1 cbs) ∧ row 2 d = lengthsK (book 2 cbs) ∧ row 3 d = lengthsK (book 3 cbs)

end Cert.KernelIdeal.Val

end
-- ==== Proof.BodyA.lean ====
/- The body at one grid step whose index is 0: from any contents of the output windows it leaves the block values of `Vals`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Reads

@[expose] public section

set_option maxRecDepth 16384
set_option maxHeartbeats 8000000

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .vmem S256x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S512x128 .f32) (harg22 : arg22.IsWhole) (arg23 : Memref sig .tc .vmem S1x512 .f32) (harg23 : arg23.IsWhole) (arg24 : Memref sig .tc .vmem S4x1024x256 .f32) (harg24 : arg24.IsWhole) (arg25 : Memref sig .tc .vmem S256x512 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (arg34 : Memref sig .tc .vmem S8x1024 .f32) (harg34 : arg34.IsWhole) (arg35 : Memref sig .tc .vmem S4x1024x256 .bf16) (harg35 : arg35.IsWhole) (arg36 : Memref sig .tc .vmem S4x1024x256 .bf16) (harg36 : arg36.IsWhole) (arg37 : Memref sig .tc .vmem S4x1024x256 .bf16) (harg37 : arg37.IsWhole)

/-- The body at the first grid step: it fills the scratch buffers and leaves the nine blocks of results. -/
theorem runA (c : Dev nD) (i : grid0.Coords) (hc0 : (Scalar.cmpi .ne (Scalar.extui (Scalar.cmpi .eq (BitVec.ofNat 32 (i 0).val) 0#32)) 0#32) = 1#1) (X : Ins F) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.x20 ∗ owns (c : Thread nD τ) arg22 fullShare X.x21 ∗ owns (c : Thread nD τ) arg23 fullShare X.x22 ∗ owns (c : Thread nD τ) arg24 fullShare X.x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
      ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.x20 ∗ owns (c : Thread nD τ) arg22 fullShare X.x21 ∗ owns (c : Thread nD τ) arg23 fullShare X.x22 ∗ owns (c : Thread nD τ) arg24 fullShare X.x23 ∗ owns (c : Thread nD τ) arg25 fullShare (xhatV i X (levels X.x23)) ∗ owns (c : Thread nD τ) arg26 fullShare (zV i X) ∗ owns (c : Thread nD τ) arg27 fullShare (r1V i X (levels X.x23)) ∗ owns (c : Thread nD τ) arg28 fullShare (r2V i X (levels X.x23)) ∗ owns (c : Thread nD τ) arg29 fullShare (r3V i X (levels X.x23)) ∗ owns (c : Thread nD τ) arg30 fullShare (c0V i X (levels X.x23)) ∗ owns (c : Thread nD τ) arg31 fullShare (c1V i X (levels X.x23)) ∗ owns (c : Thread nD τ) arg32 fullShare (c2V i X (levels X.x23)) ∗ owns (c : Thread nD τ) arg33 fullShare (c3V i X (levels X.x23)) ∗ (∃ d, ⌜LengthsOk d X.x23⌝ ∗ owns (c : Thread nD τ) arg34 fullShare d) ∗ owns (c : Thread nD τ) arg35 fullShare (hiK X.x23) ∗ owns (c : Thread nD τ) arg36 fullShare (midK X.x23) ∗ owns (c : Thread nD τ) arg37 fullShare (loK X.x23)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  simp -proj only [cc0__body_eq_skeleton]; unfold cc0__body_skel
  simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, %hf24, H24⟩, ⟨%d25, %f25, %hf25, H25⟩, ⟨%d26, %f26, %hf26, H26⟩, ⟨%d27, %f27, %hf27, H27⟩, ⟨%d28, %f28, %hf28, H28⟩, ⟨%d29, %f29, %hf29, H29⟩, ⟨%d30, %f30, %hf30, H30⟩, ⟨%d31, %f31, %hf31, H31⟩, ⟨%d32, %f32, %hf32, H32⟩, ⟨%ds0, %fs0, %hfs0, HS0⟩, ⟨%ds1, %fs1, %hfs1, HS1⟩, ⟨%ds2, %fs2, %hfs2, HS2⟩, ⟨%ds3, %fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30; obtain rfl := harg32.eq_unread hf31; obtain rfl := harg33.eq_unread hf32
  obtain rfl := harg34.eq_unread hfs0; obtain rfl := harg35.eq_unread hfs1; obtain rfl := harg36.eq_unread hfs2; obtain rfl := harg37.eq_unread hfs3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _; isplitr; · ipureintro; exact harg22.read_unread _
    iexact H21
  isplitl [H22]
  · iexists _; isplitr; · ipureintro; exact harg23.read_unread _
    iexact H22
  isplitl [H23]
  · iexists _; isplitr; · ipureintro; exact harg24.read_unread _
    iexact H23
  isplitl [H24]
  · iexists _; isplitr; swap; · iexact H24
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]

  isplitl [H25]
  · iexists _; isplitr; swap; · iexact H25
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]

  isplitl [H26]
  · iexists _; isplitr; swap; · iexact H26
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]

  isplitl [H27]
  · iexists _; isplitr; swap; · iexact H27
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]

  isplitl [H28]
  · iexists _; isplitr; swap; · iexact H28
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]

  isplitl [H29]
  · iexists _; isplitr; swap; · iexact H29
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]

  isplitl [H30]
  · iexists _; isplitr; swap; · iexact H30
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]

  isplitl [H31]
  · iexists _; isplitr; swap; · iexact H31
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]

  isplitl [H32]
  · iexists _; isplitr; swap; · iexact H32
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]

  isplitl [HS0]
  · iexists _; isplitr; swap
    · iexists _; isplitr; swap; · iexact HS0
      ipureintro; rfl
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505
    simp -proj only [LengthsOk, View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK, _root_.and_self]
  isplitl [HS1]
  · iexists _; isplitr; swap; · iexact HS1
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505
    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]
  isplitl [HS2]
  · iexists _; isplitr; swap; · iexact HS2
    ipureintro
    delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505
    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [lengths1_eq, lengths2_eq, lengths3_eq, zV, hiMid1V, lo1V, c0V, r1V, onehot2V, c1V, s1V, r2V, d3V, c2V, s2V, r3V, c3V, xhatV, levels, colsK, lengthsK, hiK, midK, loK]
  iexists _; isplitr; swap; · iexact HS3
  ipureintro
  delta runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.r_36 runA.sl.r_37 runA.sl.r_38 runA.sl.r_39 runA.sl.HS0_4 runA.sl.HS1_1 runA.sl.HS2_1 runA.sl.HS3_1 runA.sl.v66 runA.sl.v67 runA.sl.v68 runA.sl.v69 runA.sl.v145 runA.sl.v166 runA.sl.v169 runA.sl.v173 runA.sl.v255 runA.sl.v276 runA.sl.v279 runA.sl.v283 runA.sl.v366 runA.sl.v387 runA.sl.v390 runA.sl.v394 runA.sl.v477 runA.sl.v498 runA.sl.v501 runA.sl.v505
  simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
  simp only [lengths1_eq, lengths2_eq, lengths3_eq, zV, hiMid1V, lo1V, c0V, r1V, onehot2V, c1V, s1V, r2V, d3V, c2V, s2V, r3V, c3V, xhatV, levels, colsK, lengthsK, hiK, midK, loK]

end Cert.KernelIdeal.Val

end
-- ==== Proof.BodyB.lean ====
/- The body at one grid step after the first: from any contents of the output windows it leaves the block values of `Vals`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Reads

@[expose] public section

set_option maxRecDepth 16384
set_option maxHeartbeats 8000000

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .vmem S256x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S128x256 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S512x128 .f32) (harg22 : arg22.IsWhole) (arg23 : Memref sig .tc .vmem S1x512 .f32) (harg23 : arg23.IsWhole) (arg24 : Memref sig .tc .vmem S4x1024x256 .f32) (harg24 : arg24.IsWhole) (arg25 : Memref sig .tc .vmem S256x512 .f32) (harg25 : arg25.IsWhole) (arg26 : Memref sig .tc .vmem S256x256 .f32) (harg26 : arg26.IsWhole) (arg27 : Memref sig .tc .vmem S256x256 .f32) (harg27 : arg27.IsWhole) (arg28 : Memref sig .tc .vmem S256x256 .f32) (harg28 : arg28.IsWhole) (arg29 : Memref sig .tc .vmem S256x256 .f32) (harg29 : arg29.IsWhole) (arg30 : Memref sig .tc .vmem S256x256 .f32) (harg30 : arg30.IsWhole) (arg31 : Memref sig .tc .vmem S256x256 .f32) (harg31 : arg31.IsWhole) (arg32 : Memref sig .tc .vmem S256x256 .f32) (harg32 : arg32.IsWhole) (arg33 : Memref sig .tc .vmem S256x256 .f32) (harg33 : arg33.IsWhole) (arg34 : Memref sig .tc .vmem S8x1024 .f32) (harg34 : arg34.IsWhole) (arg35 : Memref sig .tc .vmem S4x1024x256 .bf16) (harg35 : arg35.IsWhole) (arg36 : Memref sig .tc .vmem S4x1024x256 .bf16) (harg36 : arg36.IsWhole) (arg37 : Memref sig .tc .vmem S4x1024x256 .bf16) (harg37 : arg37.IsWhole)

/-- The body at a later grid step: with the scratch buffers filled it leaves the nine blocks of results. -/
theorem runB (c : Dev nD) (i : grid0.Coords) (hc0 : ¬ (Scalar.cmpi .ne (Scalar.extui (Scalar.cmpi .eq (BitVec.ofNat 32 (i 0).val) 0#32)) 0#32) = 1#1) (X : Ins F) (E : Set ℕ) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.x20 ∗ owns (c : Thread nD τ) arg22 fullShare X.x21 ∗ owns (c : Thread nD τ) arg23 fullShare X.x22 ∗ owns (c : Thread nD τ) arg24 fullShare X.x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, ⌜LengthsOk d X.x23⌝ ∗ owns (c : Thread nD τ) arg34 fullShare d) ∗ owns (c : Thread nD τ) arg35 fullShare (hiK X.x23) ∗ owns (c : Thread nD τ) arg36 fullShare (midK X.x23) ∗ owns (c : Thread nD τ) arg37 fullShare (loK X.x23)
      ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.x20 ∗ owns (c : Thread nD τ) arg22 fullShare X.x21 ∗ owns (c : Thread nD τ) arg23 fullShare X.x22 ∗ owns (c : Thread nD τ) arg24 fullShare X.x23 ∗ owns (c : Thread nD τ) arg25 fullShare (xhatV i X (levels X.x23)) ∗ owns (c : Thread nD τ) arg26 fullShare (zV i X) ∗ owns (c : Thread nD τ) arg27 fullShare (r1V i X (levels X.x23)) ∗ owns (c : Thread nD τ) arg28 fullShare (r2V i X (levels X.x23)) ∗ owns (c : Thread nD τ) arg29 fullShare (r3V i X (levels X.x23)) ∗ owns (c : Thread nD τ) arg30 fullShare (c0V i X (levels X.x23)) ∗ owns (c : Thread nD τ) arg31 fullShare (c1V i X (levels X.x23)) ∗ owns (c : Thread nD τ) arg32 fullShare (c2V i X (levels X.x23)) ∗ owns (c : Thread nD τ) arg33 fullShare (c3V i X (levels X.x23)) ∗ (∃ d, ⌜LengthsOk d X.x23⌝ ∗ owns (c : Thread nD τ) arg34 fullShare d) ∗ owns (c : Thread nD τ) arg35 fullShare (hiK X.x23) ∗ owns (c : Thread nD τ) arg36 fullShare (midK X.x23) ∗ owns (c : Thread nD τ) arg37 fullShare (loK X.x23)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
  simp only [cc0__body_eq_skeleton]; unfold cc0__body_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, %hf24, H24⟩, ⟨%d25, %f25, %hf25, H25⟩, ⟨%d26, %f26, %hf26, H26⟩, ⟨%d27, %f27, %hf27, H27⟩, ⟨%d28, %f28, %hf28, H28⟩, ⟨%d29, %f29, %hf29, H29⟩, ⟨%d30, %f30, %hf30, H30⟩, ⟨%d31, %f31, %hf31, H31⟩, ⟨%d32, %f32, %hf32, H32⟩, ⟨%s0, %hes, %fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30; obtain rfl := harg32.eq_unread hf31; obtain rfl := harg33.eq_unread hf32
  obtain rfl := harg34.eq_unread hfs0; obtain rfl := harg35.eq_unread hfs1; obtain rfl := harg36.eq_unread hfs2; obtain rfl := harg37.eq_unread hfs3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _; isplitr; · ipureintro; exact harg22.read_unread _
    iexact H21
  isplitl [H22]
  · iexists _; isplitr; · ipureintro; exact harg23.read_unread _
    iexact H22
  isplitl [H23]
  · iexists _; isplitr; · ipureintro; exact harg24.read_unread _
    iexact H23
  isplitl [H24]
  · iexists _; isplitr; swap; · iexact H24
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v66 runB.sl.v67 runB.sl.v68 runB.sl.v69
    refine (View.read_writes_full _ _ _ _ _).trans ?_
    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [hes.1, hes.2.1, hes.2.2.1, hes.2.2.2, zV, hiMid1V, lo1V, c0V, r1V, onehot2V, c1V, s1V, r2V, d3V, c2V, s2V, r3V, c3V, xhatV, levels, colsK, lengthsK, hiK, midK, loK]
    exact congrArg₂ (k0_pay1 _ _ _ _) ((View.readAt_full _ _ _).trans (harg22.read_unread _)) ((View.readAt_full _ _ _).trans (harg23.read_unread _))
  isplitl [H25]
  · iexists _; isplitr; swap; · iexact H25
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v66 runB.sl.v67 runB.sl.v68 runB.sl.v69

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [hes.1, hes.2.1, hes.2.2.1, hes.2.2.2, zV, hiMid1V, lo1V, c0V, r1V, onehot2V, c1V, s1V, r2V, d3V, c2V, s2V, r3V, c3V, xhatV, levels, colsK, lengthsK, hiK, midK, loK]

  isplitl [H26]
  · iexists _; isplitr; swap; · iexact H26
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v66 runB.sl.v67 runB.sl.v68 runB.sl.v69

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [hes.1, hes.2.1, hes.2.2.1, hes.2.2.2, zV, hiMid1V, lo1V, c0V, r1V, onehot2V, c1V, s1V, r2V, d3V, c2V, s2V, r3V, c3V, xhatV, levels, colsK, lengthsK, hiK, midK, loK]

  isplitl [H27]
  · iexists _; isplitr; swap; · iexact H27
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v66 runB.sl.v67 runB.sl.v68 runB.sl.v69

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [hes.1, hes.2.1, hes.2.2.1, hes.2.2.2, zV, hiMid1V, lo1V, c0V, r1V, onehot2V, c1V, s1V, r2V, d3V, c2V, s2V, r3V, c3V, xhatV, levels, colsK, lengthsK, hiK, midK, loK]

  isplitl [H28]
  · iexists _; isplitr; swap; · iexact H28
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v66 runB.sl.v67 runB.sl.v68 runB.sl.v69

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [hes.1, hes.2.1, hes.2.2.1, hes.2.2.2, zV, hiMid1V, lo1V, c0V, r1V, onehot2V, c1V, s1V, r2V, d3V, c2V, s2V, r3V, c3V, xhatV, levels, colsK, lengthsK, hiK, midK, loK]

  isplitl [H29]
  · iexists _; isplitr; swap; · iexact H29
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v66 runB.sl.v67 runB.sl.v68 runB.sl.v69

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [hes.1, hes.2.1, hes.2.2.1, hes.2.2.2, zV, hiMid1V, lo1V, c0V, r1V, onehot2V, c1V, s1V, r2V, d3V, c2V, s2V, r3V, c3V, xhatV, levels, colsK, lengthsK, hiK, midK, loK]

  isplitl [H30]
  · iexists _; isplitr; swap; · iexact H30
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v66 runB.sl.v67 runB.sl.v68 runB.sl.v69

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [hes.1, hes.2.1, hes.2.2.1, hes.2.2.2, zV, hiMid1V, lo1V, c0V, r1V, onehot2V, c1V, s1V, r2V, d3V, c2V, s2V, r3V, c3V, xhatV, levels, colsK, lengthsK, hiK, midK, loK]

  isplitl [H31]
  · iexists _; isplitr; swap; · iexact H31
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v66 runB.sl.v67 runB.sl.v68 runB.sl.v69

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [hes.1, hes.2.1, hes.2.2.1, hes.2.2.2, zV, hiMid1V, lo1V, c0V, r1V, onehot2V, c1V, s1V, r2V, d3V, c2V, s2V, r3V, c3V, xhatV, levels, colsK, lengthsK, hiK, midK, loK]

  isplitl [H32]
  · iexists _; isplitr; swap; · iexact H32
    ipureintro
    delta runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v66 runB.sl.v67 runB.sl.v68 runB.sl.v69

    simp -proj only [View.read_writes_full, View.readCov, readAt_book0, readAt_row0, row_writes0, readAt_book1, readAt_row1, row_writes1, readAt_book2, readAt_row2, row_writes2, readAt_book3, readAt_row3, row_writes3, View.readAt_full, Memref.IsWhole.read_unread]
    simp only [hes.1, hes.2.1, hes.2.2.1, hes.2.2.2, zV, hiMid1V, lo1V, c0V, r1V, onehot2V, c1V, s1V, r2V, d3V, c2V, s2V, r3V, c3V, xhatV, levels, colsK, lengthsK, hiK, midK, loK]

  isplitl [HS0]
  · iexists _; isplitr; · ipureintro; exact hes
    iexists _; isplitr; · ipureintro; exact harg34.read_unread _
    iexact HS0
  isplitl [HS1]
  · iexists _; isplitr; · ipureintro; exact harg35.read_unread _
    iexact HS1
  isplitl [HS2]
  · iexists _; isplitr; · ipureintro; exact harg36.read_unread _
    iexact HS2
  iexists _; isplitr; · ipureintro; exact harg37.read_unread _
  iexact HS3

end Cert.KernelIdeal.Val

end
-- ==== Proof.Grid.lean ====
/- The pipeline around the body: what every grid step finds and leaves in the staging and scratch buffers, and the run of the
   whole kernel with the nine result arrays named. -/
module

public import Idealize.ShloMosaic.Lib.Claim
public import Idealize.ShloMosaic.Lib.Pipeline.ValueKit
public import proofs.«01_k».proof.Proof.BodyA
public import proofs.«01_k».proof.Proof.BodyB

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands the pipeline hands the body -/

/-- The staging buffer of window 0 at point `t`, and that it is whole. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
/-- The staging buffer of window 1 at point `t`, and that it is whole. -/
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
/-- The staging buffer of window 2 at point `t`, and that it is whole. -/
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
/-- The staging buffer of window 3 at point `t`, and that it is whole. -/
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
/-- The staging buffer of window 4 at point `t`, and that it is whole. -/
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
/-- The staging buffer of window 5 at point `t`, and that it is whole. -/
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The staging buffer of window 6 at point `t`, and that it is whole. -/
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The staging buffer of window 7 at point `t`, and that it is whole. -/
abbrev ms0_7 (t : Fin cfg0.N) : Memref sig .tc .vmem S256x128 .f32 := win0_7.stage (cfg0.slots t 7)
abbrev hs0_7 (t : Fin cfg0.N) : (ms0_7 t).IsWhole := hstage0_7 ((cfg0.slots t 7).cast nbuf0_7)
/-- The staging buffer of window 8 at point `t`, and that it is whole. -/
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
/-- The staging buffer of window 9 at point `t`, and that it is whole. -/
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
/-- The staging buffer of window 10 at point `t`, and that it is whole. -/
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
/-- The staging buffer of window 11 at point `t`, and that it is whole. -/
abbrev ms0_11 (t : Fin cfg0.N) : Memref sig .tc .vmem S256x256 .f32 := win0_11.stage (cfg0.slots t 11)
abbrev hs0_11 (t : Fin cfg0.N) : (ms0_11 t).IsWhole := hstage0_11 ((cfg0.slots t 11).cast nbuf0_11)
/-- The staging buffer of window 12 at point `t`, and that it is whole. -/
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
/-- The staging buffer of window 13 at point `t`, and that it is whole. -/
abbrev ms0_13 (t : Fin cfg0.N) : Memref sig .tc .vmem S256x256 .f32 := win0_13.stage (cfg0.slots t 13)
abbrev hs0_13 (t : Fin cfg0.N) : (ms0_13 t).IsWhole := hstage0_13 ((cfg0.slots t 13).cast nbuf0_13)
/-- The staging buffer of window 14 at point `t`, and that it is whole. -/
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
/-- The staging buffer of window 15 at point `t`, and that it is whole. -/
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
/-- The staging buffer of window 16 at point `t`, and that it is whole. -/
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
/-- The staging buffer of window 17 at point `t`, and that it is whole. -/
abbrev ms0_17 (t : Fin cfg0.N) : Memref sig .tc .vmem S128x256 .f32 := win0_17.stage (cfg0.slots t 17)
abbrev hs0_17 (t : Fin cfg0.N) : (ms0_17 t).IsWhole := hstage0_17 ((cfg0.slots t 17).cast nbuf0_17)
/-- The staging buffer of window 18 at point `t`, and that it is whole. -/
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
/-- The staging buffer of window 19 at point `t`, and that it is whole. -/
abbrev ms0_19 (t : Fin cfg0.N) : Memref sig .tc .vmem S1x128 .f32 := win0_19.stage (cfg0.slots t 19)
abbrev hs0_19 (t : Fin cfg0.N) : (ms0_19 t).IsWhole := hstage0_19 ((cfg0.slots t 19).cast nbuf0_19)
/-- The staging buffer of window 20 at point `t`, and that it is whole. -/
abbrev ms0_20 (t : Fin cfg0.N) : Memref sig .tc .vmem S1x128 .f32 := win0_20.stage (cfg0.slots t 20)
abbrev hs0_20 (t : Fin cfg0.N) : (ms0_20 t).IsWhole := hstage0_20 ((cfg0.slots t 20).cast nbuf0_20)
/-- The staging buffer of window 21 at point `t`, and that it is whole. -/
abbrev ms0_21 (t : Fin cfg0.N) : Memref sig .tc .vmem S512x128 .f32 := win0_21.stage (cfg0.slots t 21)
abbrev hs0_21 (t : Fin cfg0.N) : (ms0_21 t).IsWhole := hstage0_21 ((cfg0.slots t 21).cast nbuf0_21)
/-- The staging buffer of window 22 at point `t`, and that it is whole. -/
abbrev ms0_22 (t : Fin cfg0.N) : Memref sig .tc .vmem S1x512 .f32 := win0_22.stage (cfg0.slots t 22)
abbrev hs0_22 (t : Fin cfg0.N) : (ms0_22 t).IsWhole := hstage0_22 ((cfg0.slots t 22).cast nbuf0_22)
/-- The staging buffer of window 23 at point `t`, and that it is whole. -/
abbrev ms0_23 (t : Fin cfg0.N) : Memref sig .tc .vmem S4x1024x256 .f32 := win0_23.stage (cfg0.slots t 23)
abbrev hs0_23 (t : Fin cfg0.N) : (ms0_23 t).IsWhole := hstage0_23 ((cfg0.slots t 23).cast nbuf0_23)
/-- The staging buffer of window 24 at point `t`, and that it is whole. -/
abbrev ms0_24 (t : Fin cfg0.N) : Memref sig .tc .vmem S256x512 .f32 := win0_24.stage (cfg0.slots t 24)
abbrev hs0_24 (t : Fin cfg0.N) : (ms0_24 t).IsWhole := hstage0_24 ((cfg0.slots t 24).cast nbuf0_24)
/-- The staging buffer of window 25 at point `t`, and that it is whole. -/
abbrev ms0_25 (t : Fin cfg0.N) : Memref sig .tc .vmem S256x256 .f32 := win0_25.stage (cfg0.slots t 25)
abbrev hs0_25 (t : Fin cfg0.N) : (ms0_25 t).IsWhole := hstage0_25 ((cfg0.slots t 25).cast nbuf0_25)
/-- The staging buffer of window 26 at point `t`, and that it is whole. -/
abbrev ms0_26 (t : Fin cfg0.N) : Memref sig .tc .vmem S256x256 .f32 := win0_26.stage (cfg0.slots t 26)
abbrev hs0_26 (t : Fin cfg0.N) : (ms0_26 t).IsWhole := hstage0_26 ((cfg0.slots t 26).cast nbuf0_26)
/-- The staging buffer of window 27 at point `t`, and that it is whole. -/
abbrev ms0_27 (t : Fin cfg0.N) : Memref sig .tc .vmem S256x256 .f32 := win0_27.stage (cfg0.slots t 27)
abbrev hs0_27 (t : Fin cfg0.N) : (ms0_27 t).IsWhole := hstage0_27 ((cfg0.slots t 27).cast nbuf0_27)
/-- The staging buffer of window 28 at point `t`, and that it is whole. -/
abbrev ms0_28 (t : Fin cfg0.N) : Memref sig .tc .vmem S256x256 .f32 := win0_28.stage (cfg0.slots t 28)
abbrev hs0_28 (t : Fin cfg0.N) : (ms0_28 t).IsWhole := hstage0_28 ((cfg0.slots t 28).cast nbuf0_28)
/-- The staging buffer of window 29 at point `t`, and that it is whole. -/
abbrev ms0_29 (t : Fin cfg0.N) : Memref sig .tc .vmem S256x256 .f32 := win0_29.stage (cfg0.slots t 29)
abbrev hs0_29 (t : Fin cfg0.N) : (ms0_29 t).IsWhole := hstage0_29 ((cfg0.slots t 29).cast nbuf0_29)
/-- The staging buffer of window 30 at point `t`, and that it is whole. -/
abbrev ms0_30 (t : Fin cfg0.N) : Memref sig .tc .vmem S256x256 .f32 := win0_30.stage (cfg0.slots t 30)
abbrev hs0_30 (t : Fin cfg0.N) : (ms0_30 t).IsWhole := hstage0_30 ((cfg0.slots t 30).cast nbuf0_30)
/-- The staging buffer of window 31 at point `t`, and that it is whole. -/
abbrev ms0_31 (t : Fin cfg0.N) : Memref sig .tc .vmem S256x256 .f32 := win0_31.stage (cfg0.slots t 31)
abbrev hs0_31 (t : Fin cfg0.N) : (ms0_31 t).IsWhole := hstage0_31 ((cfg0.slots t 31).cast nbuf0_31)
/-- The staging buffer of window 32 at point `t`, and that it is whole. -/
abbrev ms0_32 (t : Fin cfg0.N) : Memref sig .tc .vmem S256x256 .f32 := win0_32.stage (cfg0.slots t 32)
abbrev hs0_32 (t : Fin cfg0.N) : (ms0_32 t).IsWhole := hstage0_32 ((cfg0.slots t 32).cast nbuf0_32)
/-- Scratch buffer 0. -/
abbrev scM0_0 : Memref sig .tc .vmem S8x1024 .f32 := Memref.whole cc0_scratch0
/-- Scratch buffer 1. -/
abbrev scM0_1 : Memref sig .tc .vmem S4x1024x256 .bf16 := Memref.whole cc0_scratch1
/-- Scratch buffer 2. -/
abbrev scM0_2 : Memref sig .tc .vmem S4x1024x256 .bf16 := Memref.whole cc0_scratch2
/-- Scratch buffer 3. -/
abbrev scM0_3 : Memref sig .tc .vmem S4x1024x256 .bf16 := Memref.whole cc0_scratch3

/-- The kernel's first-step test holds at the first grid step only. -/
theorem first_iff : ∀ t : Fin cfg0.N, (Scalar.cmpi .ne (Scalar.extui (Scalar.cmpi .eq (BitVec.ofNat 32 (grid0.coords t 0).val) 0#32)) 0#32) = 1#1 ↔ t.val = 0 :=
  (fun t => by
    have ht : t.val < 4 := Nat.lt_of_lt_of_eq t.isLt N_0
    have e0 : (grid0.coords t 0).val = t.val / 1 % 4 := Pipeline.Grid.coords_val t 0 (by decide) rfl
    simp only [e0]
    word_cmp
   : ∀ t : Fin grid0.N, _ ↔ t.val = 0)

/-- The region's scratch buffers and generator register, each at some contents. -/
theorem scratch_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The blocks the body reads at point `t`. -/
abbrev insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t⟩

/-- The codebooks as launched. -/
def cbsOf (c : Dev nD) : Vec F S4x1024x256 .f32 := m ((c : Thread nD τ).loc main_arg21)

/-- The codebooks' window sits at the origin at every point. -/
theorem idx23 : ∀ t : Fin cfg0.N, win0_23.index t = ![0, 0, 0] := (by decide +kernel : ∀ t : Fin grid0.N, _)

/-- Every point's codebook block is the codebooks as launched. -/
theorem x23_eq (c : Dev nD) (t : Fin cfg0.N) : iblk m c 23 t = cbsOf m c := by
  unfold cbsOf
  blk_ext! [iblk, V, idx23 t]

/-- The scratch buffers once filled: the squared lengths and the three parts of the codebooks. -/
def filled (c : Dev nD) (cbs : Vec F S4x1024x256 .f32) : sProp 𝕄 :=
  iprop((∃ d, ⌜LengthsOk d cbs⌝ ∗ owns (c : Thread nD τ) scM0_0 fullShare d) ∗ owns (c : Thread nD τ) scM0_1 fullShare (hiK cbs) ∗ owns (c : Thread nD τ) scM0_2 fullShare (midK cbs) ∗ owns (c : Thread nD τ) scM0_3 fullShare (loK cbs))

/-- The invariant before position `n`: nothing known of the scratch before the first point, filled afterwards. -/
def inv (c : Dev nD) : (n : ℕ) → n ≤ cfg0.N → sProp 𝕄
  | 0, _ => Pipeline.ΦA spec0 c
  | _ + 1, _ => iprop(filled c (cbsOf m c) ∗ (∃ r, prngReg c r))

/-- The invariant before the first point. -/
theorem inv_zero (c : Dev nD) (n : ℕ) (h : n ≤ cfg0.N) (hz : n = 0) : inv m c n h = Pipeline.ΦA spec0 c := by
  subst hz; rfl

/-- The invariant before a later position. -/
theorem inv_pos (c : Dev nD) (n : ℕ) (h : n ≤ cfg0.N) (hz : n ≠ 0) :
    inv m c n h = iprop(filled c (cbsOf m c) ∗ (∃ r, prngReg c r)) := by
  cases n with
  | zero => exact absurd rfl hz
  | succ n => rfl

/-- What the body leaves in each window's staging buffer: an input's block, a result's block value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => xhatV (grid0.coords t) (insAt m c t) (levels (iblk m c 23 t))
    | ⟨25, _⟩ => zV (grid0.coords t) (insAt m c t)
    | ⟨26, _⟩ => r1V (grid0.coords t) (insAt m c t) (levels (iblk m c 23 t))
    | ⟨27, _⟩ => r2V (grid0.coords t) (insAt m c t) (levels (iblk m c 23 t))
    | ⟨28, _⟩ => r3V (grid0.coords t) (insAt m c t) (levels (iblk m c 23 t))
    | ⟨29, _⟩ => c0V (grid0.coords t) (insAt m c t) (levels (iblk m c 23 t))
    | ⟨30, _⟩ => c1V (grid0.coords t) (insAt m c t) (levels (iblk m c 23 t))
    | ⟨31, _⟩ => c2V (grid0.coords t) (insAt m c t) (levels (iblk m c 23 t))
    | ⟨32, _⟩ => c3V (grid0.coords t) (insAt m c t) (levels (iblk m c 23 t))
    | ⟨_ + 33, h⟩ => absurd h (Nat.not_lt.2 (Nat.le_add_left _ _))
  Φ t := inv m c t.val (Nat.le_of_lt_succ t.isLt)
  q _ := fullShare
  owed _ := 0

/-- The arrays are what the region finds. -/
theorem A_eq (c : Dev nD) (w : Fin cfg0.W) : (dats m 0 c).A w = V m c (Pipeline.arrRef spec0 w) := by
  dsimp only [dats]

/-- The invariant at a point's start. -/
theorem inv_start (c : Dev nD) (t : Fin cfg0.N) :
    (dats m 0 c).Φ t.castSucc = inv m c t.val (Nat.le_of_lt t.isLt) := by
  dsimp only [dats]; exact Pipeline.Dat.Φ_castSucc (inv m c) t

/-! ## What the body leaves, window by window -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = xhatV (grid0.coords t) (insAt m c t) (levels (iblk m c 23 t)) := by dsimp only [dats]
theorem after_25 (c : Dev nD) (t : Fin cfg0.N) : (dats m 0 c).after 25 t = zV (grid0.coords t) (insAt m c t) := by dsimp only [dats]
theorem after_26 (c : Dev nD) (t : Fin cfg0.N) : (dats m 0 c).after 26 t = r1V (grid0.coords t) (insAt m c t) (levels (iblk m c 23 t)) := by dsimp only [dats]
theorem after_27 (c : Dev nD) (t : Fin cfg0.N) : (dats m 0 c).after 27 t = r2V (grid0.coords t) (insAt m c t) (levels (iblk m c 23 t)) := by dsimp only [dats]
theorem after_28 (c : Dev nD) (t : Fin cfg0.N) : (dats m 0 c).after 28 t = r3V (grid0.coords t) (insAt m c t) (levels (iblk m c 23 t)) := by dsimp only [dats]
theorem after_29 (c : Dev nD) (t : Fin cfg0.N) : (dats m 0 c).after 29 t = c0V (grid0.coords t) (insAt m c t) (levels (iblk m c 23 t)) := by dsimp only [dats]
theorem after_30 (c : Dev nD) (t : Fin cfg0.N) : (dats m 0 c).after 30 t = c1V (grid0.coords t) (insAt m c t) (levels (iblk m c 23 t)) := by dsimp only [dats]
theorem after_31 (c : Dev nD) (t : Fin cfg0.N) : (dats m 0 c).after 31 t = c2V (grid0.coords t) (insAt m c t) (levels (iblk m c 23 t)) := by dsimp only [dats]
theorem after_32 (c : Dev nD) (t : Fin cfg0.N) : (dats m 0 c).after 32 t = c3V (grid0.coords t) (insAt m c t) (levels (iblk m c 23 t)) := by dsimp only [dats]

/-! ## What the body finds in an input window -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d

/-- What the pipeline hands the body at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d)))

/-- What the body hands back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t))

set_option maxHeartbeats 28800000 in
/-- The body at any point takes what the pipeline hands it to what the pipeline wants back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32]
  rw [show (dats m 0 c).Φ t.succ = inv m c (t.val + 1) t.isLt from rfl, inv_pos m c (t.val + 1) _ (Nat.succ_ne_zero _), ← x23_eq m c t]
  by_cases h0 : t.val = 0
  · rw [inv_start m c t, inv_zero m c _ _ h0, scratch_eq]
    unfold filled
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
    iapply (runA _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c (grid0.coords t) ((first_iff t).mpr h0) (insAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, H23, H24, H25, H26, H27, H28, H29, H30, H31, H32, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    iexact H32
  · rw [inv_start m c t, inv_pos m c _ _ h0, ← x23_eq m c t]
    unfold filled
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
    iapply (runB _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ c (grid0.coords t) (fun h => h0 ((first_iff t).mp h)) (insAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, H23, H24, H25, H26, H27, H28, H29, H30, H31, H32, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    iexact H32

/-- The body table's row at point `t` is the body as the pipeline spells it. -/
theorem defs₀_row (t : Fin cfg0.N) :
    defs₀ (F := F) .tc cfg0.body (cfg0.bodyArgs t (cfg0.slots t)) = bodyAt0 t := by
  unfold defs₀; rw [Defs.onTc_tc]

attribute [local irreducible] xhatV zV r1V r2V r3V c0V c1V c2V c3V

set_option maxHeartbeats 4000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the scratch contents are forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 4 := N_0; omega), scratch_eq]
  unfold filled
  iintro ⟨⟨⟨%d, %hd, HS0⟩, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run -/

set_option backward.isDefEq.respectTransparency.types false in
/-- Every execution of the kernel ends, with every array at what the grid steps write and every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as launched. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) ((θ_run defs _ _).mono (fun _ h => h.1) (run_all m ρ))

/-! ## The result arrays after the run -/

/-- Result array 0 ends at what the grid steps write to it. -/
theorem result_0 (r : PUnit × MemSt nD τ sig (Elt F)) (h : Pipeline.FramePost cfgs (dats m) 0 (V m) r) (c : Dev nD) :
    r.2.mem ((c : Thread nD τ).loc main_v16_0) = (dats m 0 c).arrAt 24 cfg0.N := (h c).1 24

/-- Result array 1 ends at what the grid steps write to it. -/
theorem result_1 (r : PUnit × MemSt nD τ sig (Elt F)) (h : Pipeline.FramePost cfgs (dats m) 0 (V m) r) (c : Dev nD) :
    r.2.mem ((c : Thread nD τ).loc main_v16_1) = (dats m 0 c).arrAt 25 cfg0.N := (h c).1 25

/-- Result array 2 ends at what the grid steps write to it. -/
theorem result_2 (r : PUnit × MemSt nD τ sig (Elt F)) (h : Pipeline.FramePost cfgs (dats m) 0 (V m) r) (c : Dev nD) :
    r.2.mem ((c : Thread nD τ).loc main_v16_2) = (dats m 0 c).arrAt 26 cfg0.N := (h c).1 26

/-- Result array 3 ends at what the grid steps write to it. -/
theorem result_3 (r : PUnit × MemSt nD τ sig (Elt F)) (h : Pipeline.FramePost cfgs (dats m) 0 (V m) r) (c : Dev nD) :
    r.2.mem ((c : Thread nD τ).loc main_v16_3) = (dats m 0 c).arrAt 27 cfg0.N := (h c).1 27

/-- Result array 4 ends at what the grid steps write to it. -/
theorem result_4 (r : PUnit × MemSt nD τ sig (Elt F)) (h : Pipeline.FramePost cfgs (dats m) 0 (V m) r) (c : Dev nD) :
    r.2.mem ((c : Thread nD τ).loc main_v16_4) = (dats m 0 c).arrAt 28 cfg0.N := (h c).1 28

/-- Result array 5 ends at what the grid steps write to it. -/
theorem result_5 (r : PUnit × MemSt nD τ sig (Elt F)) (h : Pipeline.FramePost cfgs (dats m) 0 (V m) r) (c : Dev nD) :
    r.2.mem ((c : Thread nD τ).loc main_v16_5) = (dats m 0 c).arrAt 29 cfg0.N := (h c).1 29

/-- Result array 6 ends at what the grid steps write to it. -/
theorem result_6 (r : PUnit × MemSt nD τ sig (Elt F)) (h : Pipeline.FramePost cfgs (dats m) 0 (V m) r) (c : Dev nD) :
    r.2.mem ((c : Thread nD τ).loc main_v16_6) = (dats m 0 c).arrAt 30 cfg0.N := (h c).1 30

/-- Result array 7 ends at what the grid steps write to it. -/
theorem result_7 (r : PUnit × MemSt nD τ sig (Elt F)) (h : Pipeline.FramePost cfgs (dats m) 0 (V m) r) (c : Dev nD) :
    r.2.mem ((c : Thread nD τ).loc main_v16_7) = (dats m 0 c).arrAt 31 cfg0.N := (h c).1 31

/-- Result array 8 ends at what the grid steps write to it. -/
theorem result_8 (r : PUnit × MemSt nD τ sig (Elt F)) (h : Pipeline.FramePost cfgs (dats m) 0 (V m) r) (c : Dev nD) :
    r.2.mem ((c : Thread nD τ).loc main_v16_8) = (dats m 0 c).arrAt 32 cfg0.N := (h c).1 32

end Cert.KernelIdeal.Val

end
-- ==== Proof.RefVals.lean ====
/- The reference program's results as named functions of whole arrays: the encoder, one level of the
   residual quantiser, and the decoder, each written with the host operations the program runs. -/
module

public import proofs.«01_k».proof.Proof.Gen.ReferenceIdeal
public import Idealize.ShloMosaic.Lib.StableHlo.Run

@[expose] public section

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The masked rows with the mask written over row 0 and the positional row added. -/
def masked (x : FVec F S1024x512 .f32) (pos : FVec F S1x512 .f32) (mask : IVec S512 1) : FVec F S1024x512 .f32 :=
  addf
    (select (broadcastInDim S1024x512 ![0, 1] bcast_S1x512_S1024x512_0_1 (broadcastInDim S1x512 ![1] bcast_S512_S1x512_1 mask))
      (broadcastInDim S1024x512 ![] bcast_S_S1024x512 (id (constant S_ .f32 0x00000000#32)))
      (Host.scatter scatter_S1024x512_S1_S512_0_0_0_0 (fun _ b => b) x
        (broadcastInDim S1 ![] bcast_S_S1 (constantI S_ 32 0#32)) (uitofp .f32 mask)))
    (broadcastInDim S1024x512 ![0, 1] bcast_S1x512_S1024x512_0_1 pos)

/-- A 128-wide row repeated on every one of the 1024 rows. -/
def rows128 (b : FVec F S128 .f32) : FVec F S1024x128 .f32 :=
  broadcastInDim S1024x128 ![0, 1] bcast_S1x128_S1024x128_0_1 (broadcastInDim S1x128 ![1] bcast_S128_S1x128_1 b)

/-- A 256-wide row repeated on every one of the 1024 rows. -/
def rows256 (b : FVec F S256 .f32) : FVec F S1024x256 .f32 :=
  broadcastInDim S1024x256 ![0, 1] bcast_S1x256_S1024x256_0_1 (broadcastInDim S1x256 ![1] bcast_S256_S1x256_1 b)

/-- The inference batch norm (scale by the stored standard deviation, gain, shift) and the relu, 128 wide. -/
def normRelu128 (h : FVec F S1024x128 .f32) (g be : FVec F S128 .f32) : FVec F S1024x128 .f32 :=
  maximumf
    (addf (mulf (Host.divf h (broadcastInDim S1024x128 ![] bcast_S_S1024x128 (id (Host.sqrt (constant S_ .f32 0x3F800054#32)))))
      (rows128 g)) (rows128 be))
    (broadcastInDim S1024x128 ![] bcast_S_S1024x128 (constant S_ .f32 0x00000000#32))

/-- The same batch norm and relu, 256 wide. -/
def normRelu256 (h : FVec F S1024x256 .f32) (g be : FVec F S256 .f32) : FVec F S1024x256 .f32 :=
  maximumf
    (addf (mulf (Host.divf h (broadcastInDim S1024x256 ![] bcast_S_S1024x256 (id (Host.sqrt (constant S_ .f32 0x3F800054#32)))))
      (rows256 g)) (rows256 be))
    (broadcastInDim S1024x256 ![] bcast_S_S1024x256 (constant S_ .f32 0x00000000#32))

/-- The 512 to 128 linear layer. -/
def lin512_128 (x : FVec F S1024x512 .f32) (w : FVec F S128x512 .f32) (b : FVec F S128 .f32) : FVec F S1024x128 .f32 :=
  addf (Host.dotGeneral dot_S1024x512_S512x128_S1024x128_1_0_0_1_n_n none x (transpose S512x128 [1, 0] w transposes_S128x512_S512x128_1_0)) (rows128 b)

/-- The 128 to 256 linear layer. -/
def lin128_256 (x : FVec F S1024x128 .f32) (w : FVec F S256x128 .f32) (b : FVec F S256 .f32) : FVec F S1024x256 .f32 :=
  addf (Host.dotGeneral dot_S1024x128_S128x256_S1024x256_1_0_0_1_n_n none x (transpose S128x256 [1, 0] w transposes_S256x128_S128x256_1_0)) (rows256 b)

/-- The 256 to 256 linear layer. -/
def lin256_256 (x : FVec F S1024x256 .f32) (w : FVec F S256x256 .f32) (b : FVec F S256 .f32) : FVec F S1024x256 .f32 :=
  addf (Host.dotGeneral dot_S1024x256_S256x256_S1024x256_1_0_0_1_n_n none x (transpose S256x256 [1, 0] w transposes_S256x256_S256x256_1_0)) (rows256 b)

/-- The 256 to 128 linear layer. -/
def lin256_128 (x : FVec F S1024x256 .f32) (w : FVec F S128x256 .f32) (b : FVec F S128 .f32) : FVec F S1024x128 .f32 :=
  addf (Host.dotGeneral dot_S1024x256_S256x128_S1024x128_1_0_0_1_n_n none x (transpose S256x128 [1, 0] w transposes_S128x256_S256x128_1_0)) (rows128 b)

/-- The 128 to 512 linear layer. -/
def lin128_512 (x : FVec F S1024x128 .f32) (w : FVec F S512x128 .f32) (b : FVec F S512 .f32) : FVec F S1024x512 .f32 :=
  addf (Host.dotGeneral dot_S1024x128_S128x512_S1024x512_1_0_0_1_n_n none x (transpose S128x512 [1, 0] w transposes_S512x128_S128x512_1_0))
    (broadcastInDim S1024x512 ![0, 1] bcast_S1x512_S1024x512_0_1 (broadcastInDim S1x512 ![1] bcast_S512_S1x512_1 b))

/-- The encoder: three linear layers, the first two normalised and clipped. -/
def encode (x : FVec F S1024x512 .f32) (w1 : FVec F S128x512 .f32) (b1 g1 e1 : FVec F S128 .f32)
    (w2 : FVec F S256x128 .f32) (b2 g2 e2 : FVec F S256 .f32) (w3 : FVec F S256x256 .f32) (b3 : FVec F S256 .f32)
    (pos : FVec F S1x512 .f32) (mask : IVec S512 1) : FVec F S1024x256 .f32 :=
  lin256_256 (normRelu256 (lin128_256 (normRelu128 (lin512_128 (masked x pos mask) w1 b1) g1 e1) w2 b2) g2 e2) w3 b3

/-- Squared distances of the rows of `r` to the rows of the codebook. -/
def dists (r cb : FVec F S1024x256 .f32) : FVec F S1024x1024 .f32 :=
  subf
    (addf
      (broadcastInDim S1024x1024 ![0, 1] bcast_S1024x1_S1024x1024_0_1 (broadcastInDim S1024x1 ![0] bcast_S1024_S1024x1_0
        (Host.reduceAdd (mulf r r) (constant S_ .f32 0x00000000#32) reducesTo_S1024x256_S1024_d1 h_S_)))
      (broadcastInDim S1024x1024 ![0, 1] bcast_S1x1024_S1024x1024_0_1 (broadcastInDim S1x1024 ![1] bcast_S1024_S1x1024_1
        (Host.reduceAdd (mulf cb cb) (constant S_ .f32 0x00000000#32) reducesTo_S1024x256_S1024_d1 h_S_))))
    (mulf (broadcastInDim S1024x1024 ![] bcast_S_S1024x1024 (constant S_ .f32 0x40000000#32))
      (Host.dotGeneral dot_S1024x256_S256x1024_S1024x1024_1_0_0_1_n_n none r (transpose S256x1024 [1, 0] cb transposes_S1024x256_S256x1024_1_0)))

/-- The index of the least entry of each row. -/
def argmins (d : FVec F S1024x1024 .f32) : IVec S1024 32 := fun j =>
  (Host.argReduce reducer_argmin_f32_i32 d (iotaInDim S1024x1024 32 1) (constant S_ .f32 0x7F800000#32) (constantI S_ 32 0#32)
    reducesTo_S1024x1024_S1024_d1 h_S_ j).2

/-- The row numbers a lookup reads: a negative one counted from the end. -/
def wrapped (k : IVec S1024 32) : IVec S1024x1 32 :=
  broadcastInDim S1024x1 ![0] bcast_S1024_S1024x1_0
    (select (cmpi .slt k (broadcastInDim S1024 ![] bcast_S_S1024 (constantI S_ 32 0#32)))
      (addi k (broadcastInDim S1024 ![] bcast_S_S1024 (constantI S_ 32 1024#32))) k)

/-- Rows of the codebook by number; a number off the codebook gives the filling value. -/
def lookup (cb : FVec F S1024x256 .f32) (k : IVec S1024 32) : FVec F S1024x256 .f32 :=
  select
    (broadcastInDim S1024x256 ![0] bcast_S1024_S1024x256_0
      (Host.reduce IntOp.andi
        (andi (cmpi .sge (wrapped k) (broadcastInDim S1024x1 ![] bcast_S_S1024x1 (constantI S_ 32 0#32)))
          (cmpi .sle (wrapped k) (broadcastInDim S1024x1 ![0, 1] bcast_S1x1_S1024x1_0_1 (broadcastInDim S1x1 ![1] bcast_S1_S1x1_1 (constantI S1 32 1023#32)))))
        (constantI S_ 1 1#1) reducesTo_S1024x1_S1024_d1 h_S_))
    (Host.gather gather_S1024x256_S1024x1_S1024x256_1_0_n_n_0_1_1256 cb (wrapped k))
    (broadcastInDim S1024x256 ![] bcast_S_S1024x256 (constant S_ .f32 0x7FC00000#32))

/-- The codebook row nearest each row of `r`. -/
def nearest (r cb : FVec F S1024x256 .f32) : FVec F S1024x256 .f32 :=
  lookup cb (argmins (dists r cb))

/-- Codebook number 0 of the four. -/
def book0 (cbs : FVec F S4x1024x256 .f32) : FVec F S1024x256 .f32 :=
  shapeCast S1024x256 (extractStridedSlice S1x1024x256 ![0, 0, 0] cbs slices_S4x1024x256_S1x1024x256_0_0_0) shapeCasts_S1x1024x256_S1024x256

/-- Codebook number 1 of the four. -/
def book1 (cbs : FVec F S4x1024x256 .f32) : FVec F S1024x256 .f32 :=
  shapeCast S1024x256 (extractStridedSlice S1x1024x256 ![1, 0, 0] cbs slices_S4x1024x256_S1x1024x256_1_0_0) shapeCasts_S1x1024x256_S1024x256

/-- Codebook number 2 of the four. -/
def book2 (cbs : FVec F S4x1024x256 .f32) : FVec F S1024x256 .f32 :=
  shapeCast S1024x256 (extractStridedSlice S1x1024x256 ![2, 0, 0] cbs slices_S4x1024x256_S1x1024x256_2_0_0) shapeCasts_S1x1024x256_S1024x256

/-- Codebook number 3 of the four. -/
def book3 (cbs : FVec F S4x1024x256 .f32) : FVec F S1024x256 .f32 :=
  shapeCast S1024x256 (extractStridedSlice S1x1024x256 ![3, 0, 0] cbs slices_S4x1024x256_S1x1024x256_3_0_0) shapeCasts_S1x1024x256_S1024x256

/-- Four arrays stacked along a new leading axis. -/
def stack4 (a b c d : FVec F S1x1024x256 .f32) : FVec F S4x1024x256 .f32 :=
  concatenate S4x1024x256 0 [⟨S1x1024x256, a⟩, ⟨S1x1024x256, b⟩, ⟨S1x1024x256, c⟩, ⟨S1x1024x256, d⟩]
    concatenates_S1x1024x256_S1x1024x256_S1x1024x256_S1x1024x256_S4x1024x256_d0

/-- The decoder's input: the encoding plus its difference to the four codebook rows' sum. -/
def decodeIn (z c0 c1 c2 c3 : FVec F S1024x256 .f32) : FVec F S1024x256 .f32 :=
  addf z (subf
    (Host.reduceAdd
      (stack4 (broadcastInDim S1x1024x256 ![1, 2] bcast_S1024x256_S1x1024x256_1_2 c0) (broadcastInDim S1x1024x256 ![1, 2] bcast_S1024x256_S1x1024x256_1_2 c1)
        (broadcastInDim S1x1024x256 ![1, 2] bcast_S1024x256_S1x1024x256_1_2 c2) (broadcastInDim S1x1024x256 ![1, 2] bcast_S1024x256_S1x1024x256_1_2 c3))
      (constant S_ .f32 0x00000000#32) reducesTo_S4x1024x256_S1024x256_d0 h_S_) z)

/-- The decoder: three linear layers, the first two normalised and clipped. -/
def decode (x : FVec F S1024x256 .f32) (w1 : FVec F S256x256 .f32) (b1 g1 e1 : FVec F S256 .f32)
    (w2 : FVec F S128x256 .f32) (b2 g2 e2 : FVec F S128 .f32) (w3 : FVec F S512x128 .f32) (b3 : FVec F S512 .f32) : FVec F S1024x512 .f32 :=
  lin128_512 (normRelu128 (lin256_128 (normRelu256 (lin256_256 x w1 b1) g1 e1) w2 b2) g2 e2) w3 b3

/-- The 24 argument arrays, in the order of the arguments. -/
structure Args (F : FTy → Type) where
  a0 : FVec F S1024x512 .f32
  a1 : FVec F S128x512 .f32
  a2 : FVec F S128 .f32
  a3 : FVec F S128 .f32
  a4 : FVec F S128 .f32
  a5 : FVec F S256x128 .f32
  a6 : FVec F S256 .f32
  a7 : FVec F S256 .f32
  a8 : FVec F S256 .f32
  a9 : FVec F S256x256 .f32
  a10 : FVec F S256 .f32
  a11 : FVec F S256x256 .f32
  a12 : FVec F S256 .f32
  a13 : FVec F S256 .f32
  a14 : FVec F S256 .f32
  a15 : FVec F S128x256 .f32
  a16 : FVec F S128 .f32
  a17 : FVec F S128 .f32
  a18 : FVec F S128 .f32
  a19 : FVec F S512x128 .f32
  a20 : FVec F S512 .f32
  a21 : FVec F S4x1024x256 .f32
  a22 : FVec F S1x512 .f32
  a23 : IVec S512 1

/-- The encoding of the arguments: the first residual. -/
def enc (A : Args F) : FVec F S1024x256 .f32 :=
  encode A.a0 A.a1 A.a2 A.a3 A.a4 A.a5 A.a6 A.a7 A.a8 A.a9 A.a10 A.a22 A.a23

/-- The rows picked from codebook 0. -/
def pick0 (A : Args F) : FVec F S1024x256 .f32 := nearest (enc A) (book0 A.a21)
/-- The residual after codebook 0. -/
def rest1 (A : Args F) : FVec F S1024x256 .f32 := subf (enc A) (pick0 A)
/-- The rows picked from codebook 1. -/
def pick1 (A : Args F) : FVec F S1024x256 .f32 := nearest (rest1 A) (book1 A.a21)
/-- The residual after codebook 1. -/
def rest2 (A : Args F) : FVec F S1024x256 .f32 := subf (rest1 A) (pick1 A)
/-- The rows picked from codebook 2. -/
def pick2 (A : Args F) : FVec F S1024x256 .f32 := nearest (rest2 A) (book2 A.a21)
/-- The residual after codebook 2. -/
def rest3 (A : Args F) : FVec F S1024x256 .f32 := subf (rest2 A) (pick2 A)
/-- The rows picked from codebook 3. -/
def pick3 (A : Args F) : FVec F S1024x256 .f32 := nearest (rest3 A) (book3 A.a21)
/-- The reconstruction. -/
def recon (A : Args F) : FVec F S1024x512 .f32 :=
  decode (decodeIn (enc A) (pick0 A) (pick1 A) (pick2 A) (pick3 A)) A.a11 A.a12 A.a13 A.a14 A.a15 A.a16 A.a17 A.a18 A.a19 A.a20

end Cert.ReferenceIdeal.Whole

end
-- ==== Proof.Least.lean ====
/- The first position of the least entry of a row, as the reference's reduction and as the kernel's
   one-hot row find it. -/
module

public import proofs.«01_k».proof.Proof.Vals
public import proofs.«01_k».proof.Proof.RefVals
public import Idealize.ShloMosaic.Lib.Pointwise
public import Idealize.ShloMosaic.Lib.WordCmp

@[expose] public section

set_option maxRecDepth 16384

noncomputable section

namespace Cert.Blocks

open Cert.KernelIdeal Cert.KernelIdeal.Gen Cert.KernelIdeal.Val Idealize.ShloMosaic Idealize.SL.Sem

/-- Position `k` is the first at which the row is least. -/
def FirstMin {n : ℕ} (f : Fin n → EReal) (k : Fin n) : Prop := (∀ j, f k ≤ f j) ∧ ∀ j, f j = f k → k ≤ j

/-- Every row has a first least position. -/
theorem exists_firstMin {n : ℕ} [NeZero n] (f : Fin n → EReal) : ∃ k, FirstMin f k := by
  obtain ⟨m, -, hm⟩ := Finset.exists_min_image Finset.univ f ⟨0, Finset.mem_univ _⟩
  obtain ⟨k, hk, hmin⟩ := Finset.exists_min_image (Finset.univ.filter fun j => f j = f m) id ⟨m, by simp⟩
  have hkm : f k = f m := (Finset.mem_filter.1 hk).2
  refine ⟨k, fun j => by rw [hkm]; exact hm j (Finset.mem_univ _), fun j hj => hmin j ?_⟩
  rw [Finset.mem_filter]
  exact ⟨Finset.mem_univ _, hj.trans hkm⟩

/-- A left fold with an operation that returns the lesser of its two operands returns one of the folded
    values, and one no greater than any of them. -/
theorem foldl_least {α : Type} (op : α → α → α) (le : α → α → Prop) (refl : ∀ a, le a a) (trans : ∀ a b c, le a b → le b c → le a c)
    (hop : ∀ a b, (op a b = a ∧ le a b) ∨ (op a b = b ∧ le b a)) (L : List α) (a : α) :
    L.foldl op a ∈ a :: L ∧ ∀ x ∈ a :: L, le (L.foldl op a) x := by
  induction L generalizing a with
  | nil => exact ⟨List.mem_cons_self, fun x hx => by rw [List.mem_singleton.1 hx]; exact refl _⟩
  | cons b L ih =>
    rw [List.foldl_cons]
    obtain ⟨h1, h2⟩ := ih (op a b)
    have hle : le (op a b) a ∧ le (op a b) b := by
      rcases hop a b with ⟨h, hl⟩ | ⟨h, hl⟩
      · rw [h]; exact ⟨refl _, hl⟩
      · rw [h]; exact ⟨hl, refl _⟩
    have hmem : op a b ∈ [a, b] := by
      rcases hop a b with ⟨h, -⟩ | ⟨h, -⟩ <;> rw [h] <;> simp
    constructor
    · rcases List.mem_cons.1 h1 with h | h
      · rw [h]
        rcases List.mem_cons.1 hmem with e | e
        · rw [e]; exact List.mem_cons_self
        · rw [List.mem_singleton.1 e]; exact List.mem_cons_of_mem _ List.mem_cons_self
      · exact List.mem_cons_of_mem _ (List.mem_cons_of_mem _ h)
    · intro x hx
      rcases List.mem_cons.1 hx with rfl | hx
      · exact trans _ _ _ (h2 _ List.mem_cons_self) hle.1
      · rcases List.mem_cons.1 hx with rfl | hx
        · exact trans _ _ _ (h2 _ List.mem_cons_self) hle.2
        · exact h2 x (List.mem_cons_of_mem _ hx)

/-- The order the reference's reduction takes the least of: by value, then by position. -/
def PairLe (a b : EReal × BitVec 32) : Prop := a.1 < b.1 ∨ (a.1 = b.1 ∧ a.2.toInt ≤ b.2.toInt)

/-- The reference's reduction step returns the lesser of its two pairs. -/
theorem reducer_least (a b : EReal × BitVec 32) :
    (Cert.ReferenceIdeal.reducer_argmin_f32_i32 (F := Ideal) a b = a ∧ PairLe a b) ∨
      (Cert.ReferenceIdeal.reducer_argmin_f32_i32 (F := Ideal) a b = b ∧ PairLe b a) := by
  obtain ⟨a1, a2⟩ := a
  obtain ⟨b1, b2⟩ := b
  unfold Cert.ReferenceIdeal.reducer_argmin_f32_i32 PairLe
  rcases lt_trichotomy a1 b1 with h | h | h
  · left
    pointwise [h, h.ne, WordCmp.cmpi_slt_eq]
    simp only [ne_eq, not_true, decide_true, decide_false]
    generalize decide (a2.toInt < b2.toInt) = p
    cases p <;> exact ⟨rfl, .inl trivial⟩
  · subst h
    rcases lt_or_ge a2.toInt b2.toInt with h' | h'
    · left
      pointwise [h', WordCmp.cmpi_slt_eq]
      simp only [ne_eq, not_true, lt_irrefl, decide_true, decide_false]
      exact ⟨rfl, .inr h'.le⟩
    · right
      pointwise [h', WordCmp.cmpi_slt_eq]
      simp only [ne_eq, not_true, lt_irrefl, not_lt.2 h', decide_true, decide_false]
      exact ⟨rfl, .inr trivial⟩
  · right
    pointwise [h, h.ne, WordCmp.cmpi_slt_eq]
    simp only [ne_eq, not_true, not_lt.2 h.le, h.ne', decide_true, decide_false]
    generalize decide (a2.toInt < b2.toInt) = p
    cases p <;> exact ⟨rfl, .inl trivial⟩

/-- The order on pairs is reflexive. -/
theorem pairLe_refl (a : EReal × BitVec 32) : PairLe a a := .inr ⟨rfl, le_refl _⟩

/-- The order on pairs is transitive. -/
theorem pairLe_trans (a b c : EReal × BitVec 32) (h : PairLe a b) (h' : PairLe b c) : PairLe a c := by
  rcases h with h | ⟨h, i⟩ <;> rcases h' with h' | ⟨h', i'⟩
  · exact .inl (h.trans h')
  · exact .inl (h'.symm ▸ h)
  · exact .inl (h ▸ h')
  · exact .inr ⟨h.trans h', i.trans i'⟩

/-- A position below 1024 as a signed word. -/
theorem toInt_pos (k : Fin 1024) : (BitVec.ofNat 32 k.val).toInt = k.val := by
  rw [BitVec.toInt_eq_toNat_of_lt]
  · rw [BitVec.toNat_ofNat, Nat.mod_eq_of_lt (by omega)]
  · rw [BitVec.toNat_ofNat]; omega

open Cert.ReferenceIdeal.Gen in
/-- The reference's index of a row's least entry is the first least position. -/
theorem argmins_eq (D : FVec Ideal Cert.ReferenceIdeal.S1024x1024 .f32) (r k : Fin 1024) (hk : FirstMin (fun l => D (ix2 r l)) k) :
    Cert.ReferenceIdeal.Whole.argmins D (ix1 r) = BitVec.ofNat 32 k.val := by
  unfold Cert.ReferenceIdeal.Whole.argmins
  rw [Ideal.argReduce_eq_reduce2, Host.reduce2_eq_foldl_fiber]
  set L := Host.argReduceFiber D (iotaInDim Cert.ReferenceIdeal.S1024x1024 32 1) Cert.ReferenceIdeal.Facts₀.reducesTo_S1024x1024_S1024_d1 (ix1 r) with hL
  have hmem : ∀ p : EReal × BitVec 32, p ∈ L ↔ ∃ l : Fin 1024, p = (D (ix2 r l), BitVec.ofNat 32 l.val) := by
    intro p
    rw [hL, Host.argReduceFiber, List.mem_map]
    constructor
    · rintro ⟨n, hn, rfl⟩
      have hd := of_decide_eq_true (List.mem_filter.1 hn).2
      revert hd
      generalize Cert.ReferenceIdeal.S1024x1024.rowMajor.symm n = y
      idx_vars y
      intro hd
      have hy : y0 = r := congrFun hd 0
      subst hy
      exact ⟨y1, rfl⟩
    · rintro ⟨l, rfl⟩
      refine ⟨Cert.ReferenceIdeal.S1024x1024.rowMajor (ix2 r l), List.mem_filter.2 ⟨List.mem_finRange _, decide_eq_true ?_⟩, ?_⟩
      · rw [Equiv.symm_apply_apply]
        funext a
        match a with
        | ⟨0, _⟩ => rfl
      · rw [Equiv.symm_apply_apply]
        rfl
  obtain ⟨h1, h2⟩ := foldl_least _ PairLe pairLe_refl pairLe_trans reducer_least L ((⊤ : EReal), 0#32)
  have hinit : ((constant (F := Ideal) Cert.ReferenceIdeal.S_ .f32 0x7F800000#32) (Shape.Idx.first Cert.ReferenceIdeal.Facts₀.h_S_) : EReal) = ⊤ := by
    show Ideal.ofBits .f32 0x7F800000#32 = ⊤
    simp [Ideal.ofBits, Ideal.ieee]
  rw [hinit]
  change (L.foldl _ ((⊤ : EReal), 0#32)).2 = _
  revert h1 h2
  generalize L.foldl _ ((⊤ : EReal), 0#32) = q
  intro h1 h2
  have hq := h2 _ (List.mem_cons_of_mem _ ((hmem _).2 ⟨k, rfl⟩))
  rcases List.mem_cons.1 h1 with rfl | h
  · have htop : D (ix2 r k) = ⊤ := by
      rcases hq with h | ⟨h, -⟩
      · exact absurd h not_top_lt
      · exact h.symm
    have h0 : k = 0 := le_antisymm (hk.2 0 (top_le_iff.1 (htop ▸ hk.1 0) |>.trans htop.symm)) (Fin.zero_le _)
    rw [h0]
    rfl
  · obtain ⟨l, rfl⟩ := (hmem _).1 h
    have hle : D (ix2 r l) = D (ix2 r k) ∧ l.val ≤ k.val := by
      rcases hq with h | ⟨h, h'⟩
      · exact absurd (hk.1 l) (not_le.2 h)
      · refine ⟨h, ?_⟩
        simp only [toInt_pos] at h'
        exact_mod_cast h'
    have : l = k := le_antisymm hle.2 (hk.2 l hle.1)
    rw [this]

/-- A minimum of words over all positions is one of them, or the starting word, and no greater than any. -/
theorem fold_minsi {n : ℕ} (g : Fin n → BitVec 32) (b : BitVec 32) (s : Finset (Fin n)) :
    (s.fold IntOp.minsi b g = b ∨ ∃ k ∈ s, s.fold IntOp.minsi b g = g k) ∧ ∀ k ∈ s, (s.fold IntOp.minsi b g).toInt ≤ (g k).toInt := by
  induction s using Finset.induction_on with
  | empty => simp
  | insert a s ha ih =>
    rw [Finset.fold_insert ha]
    have hop : ∀ x y : BitVec 32, (IntOp.minsi x y = x ∧ x.toInt ≤ y.toInt) ∨ (IntOp.minsi x y = y ∧ y.toInt ≤ x.toInt) := by
      intro x y
      unfold IntOp.minsi
      by_cases h : x.slt y
      · rw [if_pos h]
        exact .inl ⟨rfl, (BitVec.slt_iff_toInt_lt.1 h).le⟩
      · rw [if_neg h]
        exact .inr ⟨rfl, not_lt.1 fun h' => h (BitVec.slt_iff_toInt_lt.2 h')⟩
    rcases hop (g a) (s.fold IntOp.minsi b g) with ⟨h, hl⟩ | ⟨h, hl⟩
    · rw [h]
      refine ⟨.inr ⟨a, Finset.mem_insert_self _ _, rfl⟩, fun k hk => ?_⟩
      rcases Finset.mem_insert.1 hk with rfl | hk
      · exact le_refl _
      · exact hl.trans (ih.2 k hk)
    · rw [h]
      refine ⟨?_, fun k hk => ?_⟩
      · rcases ih.1 with h | ⟨k, hk, h⟩
        · exact .inl h
        · exact .inr ⟨k, Finset.mem_insert_of_mem hk, h⟩
      · rcases Finset.mem_insert.1 hk with rfl | hk
        · exact hl
        · exact ih.2 k hk

/-- Two positions' equality as a number. -/
theorem flag_eq (l k : Fin 1024) :
    (FloatOps.sitofp (F := Ideal) .f32 (BitVec.setWidth 32 (IntOp.cmpi .eq (BitVec.ofNat 32 l.val) (BitVec.ofNat 32 k.val))) : EReal) = if l = k then 1 else 0 := by
  rw [WordCmp.cmpi_eq_eq]
  by_cases h : l = k
  · subst h
    rw [if_pos rfl, decide_eq_true rfl]
    show (((BitVec.setWidth 32 (BitVec.ofBool true)).toInt : ℝ) : EReal) = 1
    have : (BitVec.setWidth 32 (BitVec.ofBool true)).toInt = 1 := rfl
    rw [this]
    norm_num
  · have hne : ¬ BitVec.ofNat 32 l.val = BitVec.ofNat 32 k.val := by
      intro he
      have := congrArg BitVec.toInt he
      rw [toInt_pos, toInt_pos] at this
      exact h (Fin.ext (by exact_mod_cast this))
    rw [if_neg h, decide_eq_false hne]
    show (((BitVec.setWidth 32 (BitVec.ofBool false)).toInt : ℝ) : EReal) = 0
    have : (BitVec.setWidth 32 (BitVec.ofBool false)).toInt = 0 := rfl
    rw [this]
    norm_num

/-- The one-hot rows marking the least entries of a block's distances. -/
def markK {F : FTy → Type} [FloatOps F] (d : FVec F S256x1024 .f32) : FVec F S256x1024 .bf16 :=
  truncf .bf16 (sitofp .f32 (extui 32
    (cmpi .eq colsK (broadcastTo S256x1024 (shapeCast S256x1 (multiReductionI .minsi [1] S256
      (select (cmpf .oeq d (broadcastTo S256x1024 (shapeCast S256x1
          (multiReduction .minimumf [1] S256 d 0x7F800000#32 reduces_S256x1024_S256 (.inl rfl) rfl) shapeCasts_S256_S256x1) broadcasts_S256x1_S256x1024))
        colsK (broadcast S256x1024 1024#32)) 2147483647#32 reduces_S256x1024_S256 rfl) shapeCasts_S256_S256x1) broadcasts_S256x1_S256x1024)) natLt_1_32)) bitsLt_bf16_f32

/-- The one-hot rows mark the first least position. -/
theorem markK_apply (d : FVec Ideal S256x1024 .f32) (r : Fin 256) (k l : Fin 1024) (hk : FirstMin (fun l => d (ix2 r l)) k) :
    markK (F := Ideal) d (ix2 r l) = if l = k then (1 : EReal) else 0 := by
  have hmin : Finset.fold min (Ideal.ofBits FTy.f32 2139095040#32) (fun x : Fin 1024 => d (ix2 r x)) Finset.univ = d (ix2 r k) := by
    have htop : Ideal.ofBits FTy.f32 2139095040#32 = ⊤ := by simp [Ideal.ofBits, Ideal.ieee]
    rw [htop]
    refine le_antisymm (Finset.fold_min_le _ |>.2 (.inr ⟨k, Finset.mem_univ _, le_refl _⟩)) ?_
    exact Finset.le_fold_min _ |>.2 ⟨le_top, fun x _ => hk.1 x⟩
  have hword : Finset.fold IntOp.minsi (2147483647#32) (fun x : Fin 1024 => if d (ix2 r x) = d (ix2 r k) then BitVec.ofNat 32 x.val else 1024#32)
      Finset.univ = BitVec.ofNat 32 k.val := by
    obtain ⟨h1, h2⟩ := fold_minsi (fun x : Fin 1024 => if d (ix2 r x) = d (ix2 r k) then BitVec.ofNat 32 x.val else 1024#32) 2147483647#32 Finset.univ
    have hq := h2 k (Finset.mem_univ _)
    simp only [↓reduceIte, toInt_pos] at hq
    have hlt := k.isLt
    rcases h1 with h | ⟨x, -, h⟩
    · rw [h] at hq
      have : (2147483647#32).toInt = 2147483647 := rfl
      omega
    · rw [h] at hq ⊢
      by_cases hx : d (ix2 r x) = d (ix2 r k)
      · rw [if_pos hx] at hq ⊢
        rw [toInt_pos] at hq
        have hxk : x = k := le_antisymm (by exact_mod_cast hq) (hk.2 x hx)
        rw [hxk]
      · rw [if_neg hx] at hq
        have : (1024#32).toInt = 1024 := rfl
        omega
  pointwise [markK, colsK]
  rw [hmin, hword]
  exact flag_eq l k

end Cert.Blocks

end
-- ==== Proof.Layers.lean ====
/- The encoder and the decoder, block by block: on the ideal numbers, what the kernel computes from a
   block of 256 rows is that block of what the reference computes from all 1024 rows. -/
module

public import proofs.«01_k».proof.Proof.Vals
public import proofs.«01_k».proof.Proof.RefVals
public import Idealize.ShloMosaic.Lib.Pointwise
public import Idealize.ShloMosaic.Lib.Routing.OpsOrder
public import Idealize.ShloMosaic.Lib.Routing.OpsPair
public import Idealize.ShloMosaic.Lib.WordCmp

@[expose] public section

set_option maxRecDepth 16384

noncomputable section

namespace Cert.Blocks

open Cert.KernelIdeal Cert.KernelIdeal.Gen Cert.KernelIdeal.Val Idealize.ShloMosaic Idealize.SL.Sem

/-- Row `r` of block `t`, as a row of the whole array. -/
def rowOf (t : Fin 4) (r : Fin 256) : Fin 1024 := ⟨t.val * 256 + r.val, by omega⟩

/-- Block `t` of an array of 1024 rows. -/
def blk {C : ℕ} {α : Type} (t : Fin 4) (X : (⟨2, ![1024, C]⟩ : Shape).Idx → α) : (⟨2, ![256, C]⟩ : Shape).Idx → α :=
  fun j => X (ix2 (rowOf t (j 0)) (j 1))

/-- A block at row `r` and column `l`. -/
theorem blk_apply {C : ℕ} {α : Type} (t : Fin 4) (X : (⟨2, ![1024, C]⟩ : Shape).Idx → α) (r : Fin 256) (l : Fin C) :
    blk t X (ix2 r l) = X (ix2 (rowOf t r) l) := rfl

variable (t : Fin 4)

/-- The 512 to 128 layer, block by block. -/
theorem lin512_128_blk (X : FVec Ideal S1024x512 .f32) (w : FVec Ideal S128x512 .f32) (b : FVec Ideal S128 .f32)
    (h : S128.ShapeCasts S1x128) :
    lin512_128K (F := Ideal) (blk t X) w (shapeCast S1x128 b h) = blk t (Cert.ReferenceIdeal.Whole.lin512_128 X w b) := by
  funext j
  idx_vars j
  rw [blk_apply]
  pointwise [lin512_128K, row128K, Cert.ReferenceIdeal.Whole.lin512_128, Cert.ReferenceIdeal.Whole.rows128, blk_apply]

/-- The batch norm and relu, 128 wide, block by block. -/
theorem norm128_blk (X : FVec Ideal S1024x128 .f32) (g be : FVec Ideal S128 .f32) (h h' : S128.ShapeCasts S1x128) :
    norm128K (F := Ideal) (blk t X) (shapeCast S1x128 g h) (shapeCast S1x128 be h')
      = blk t (Cert.ReferenceIdeal.Whole.normRelu128 X g be) := by
  funext j
  idx_vars j
  rw [blk_apply]
  pointwise [norm128K, row128K, Cert.ReferenceIdeal.Whole.normRelu128, Cert.ReferenceIdeal.Whole.rows128, blk_apply]
  rfl

/-- The batch norm and relu, 256 wide, block by block. -/
theorem norm256_blk (X : FVec Ideal S1024x256 .f32) (g be : FVec Ideal S256 .f32) (h h' : S256.ShapeCasts S1x256) :
    norm256K (F := Ideal) (blk t X) (shapeCast S1x256 g h) (shapeCast S1x256 be h')
      = blk t (Cert.ReferenceIdeal.Whole.normRelu256 X g be) := by
  funext j
  idx_vars j
  rw [blk_apply]
  pointwise [norm256K, row256K, Cert.ReferenceIdeal.Whole.normRelu256, Cert.ReferenceIdeal.Whole.rows256, blk_apply]
  rfl

/-- The 128 to 256 layer, block by block. -/
theorem lin128_256_blk (X : FVec Ideal S1024x128 .f32) (w : FVec Ideal S256x128 .f32) (b : FVec Ideal S256 .f32)
    (h : S256.ShapeCasts S1x256) :
    lin128_256K (F := Ideal) (blk t X) w (shapeCast S1x256 b h) = blk t (Cert.ReferenceIdeal.Whole.lin128_256 X w b) := by
  funext j
  idx_vars j
  rw [blk_apply]
  pointwise [lin128_256K, row256K, Cert.ReferenceIdeal.Whole.lin128_256, Cert.ReferenceIdeal.Whole.rows256, blk_apply]

/-- The 256 to 256 layer, block by block. -/
theorem lin256_256_blk (X : FVec Ideal S1024x256 .f32) (w : FVec Ideal S256x256 .f32) (b : FVec Ideal S256 .f32)
    (h : S256.ShapeCasts S1x256) :
    lin256_256K (F := Ideal) (blk t X) w (shapeCast S1x256 b h) = blk t (Cert.ReferenceIdeal.Whole.lin256_256 X w b) := by
  funext j
  idx_vars j
  rw [blk_apply]
  pointwise [lin256_256K, row256K, Cert.ReferenceIdeal.Whole.lin256_256, Cert.ReferenceIdeal.Whole.rows256, blk_apply]

/-- The 256 to 128 layer, block by block. -/
theorem lin256_128_blk (X : FVec Ideal S1024x256 .f32) (w : FVec Ideal S128x256 .f32) (b : FVec Ideal S128 .f32)
    (h : S128.ShapeCasts S1x128) :
    lin256_128K (F := Ideal) (blk t X) w (shapeCast S1x128 b h) = blk t (Cert.ReferenceIdeal.Whole.lin256_128 X w b) := by
  funext j
  idx_vars j
  rw [blk_apply]
  pointwise [lin256_128K, row128K, Cert.ReferenceIdeal.Whole.lin256_128, Cert.ReferenceIdeal.Whole.rows128, blk_apply]

/-- The 128 to 512 layer, block by block. -/
theorem lin128_512_blk (X : FVec Ideal S1024x128 .f32) (w : FVec Ideal S512x128 .f32) (b : FVec Ideal S512 .f32)
    (h : S512.ShapeCasts S1x512) :
    lin128_512K (F := Ideal) (blk t X) w (shapeCast S1x512 b h) = blk t (Cert.ReferenceIdeal.Whole.lin128_512 X w b) := by
  funext j
  idx_vars j
  rw [blk_apply]
  pointwise [lin128_512K, Cert.ReferenceIdeal.Whole.lin128_512, blk_apply]

/-- The decoder's input: the stacked picks' sum is the running sum. -/
theorem decodeIn_blk (Z C0 C1 C2 C3 : FVec Ideal S1024x256 .f32) :
    addf (F := Ideal) (φ := .f32) (blk t Z) (subf (addf (addf (addf (blk t C0) (blk t C1)) (blk t C2)) (blk t C3)) (blk t Z))
      = blk t (Cert.ReferenceIdeal.Whole.decodeIn Z C0 C1 C2 C3) := by
  funext j
  idx_vars j
  rw [blk_apply]
  pointwise [Cert.ReferenceIdeal.Whole.decodeIn, Cert.ReferenceIdeal.Whole.stack4, blk_apply]
  simp only [Fin.sum_univ_succ, Fin.sum_univ_zero, Fin.val_succ, Fin.val_zero, zero_add, Nat.reduceAdd, Nat.reduceSub, Nat.reduceLT,
    ↓reduceDIte, add_zero, add_assoc, zero_lt_one]

/-- The decoder, block by block. -/
theorem decode_blk (Z C0 C1 C2 C3 : FVec Ideal S1024x256 .f32) (w1 : FVec Ideal S256x256 .f32) (b1 g1 e1 : FVec Ideal S256 .f32)
    (w2 : FVec Ideal S128x256 .f32) (b2 g2 e2 : FVec Ideal S128 .f32) (w3 : FVec Ideal S512x128 .f32) (b3 : FVec Ideal S512 .f32)
    (h1 h2 h3 : S256.ShapeCasts S1x256) (h4 h5 h6 : S128.ShapeCasts S1x128) (h7 : S512.ShapeCasts S1x512) :
    decodeK (F := Ideal) (blk t Z) (addf (addf (blk t C0) (blk t C1)) (blk t C2)) (blk t C3) w1 (shapeCast S1x256 b1 h1) (shapeCast S1x256 g1 h2) (shapeCast S1x256 e1 h3)
        w2 (shapeCast S1x128 b2 h4) (shapeCast S1x128 g2 h5) (shapeCast S1x128 e2 h6) w3 (shapeCast S1x512 b3 h7)
      = blk t (Cert.ReferenceIdeal.Whole.decode (Cert.ReferenceIdeal.Whole.decodeIn Z C0 C1 C2 C3) w1 b1 g1 e1 w2 b2 g2 e2 w3 b3) := by
  unfold decodeK Cert.ReferenceIdeal.Whole.decode
  rw [decodeIn_blk, lin256_256_blk, norm256_blk, lin256_128_blk, norm128_blk, lin128_512_blk]

/-- Overwriting one entry again and again with the same value. -/
theorem foldl_set_eq {α β : Type} (L : List β) (p : β → Prop) [DecidablePred p] (u : β → α) (v : α) (hu : ∀ n ∈ L, p n → u n = v) (x : α)
    (h : x = v ∨ ∃ n ∈ L, p n) : L.foldl (fun a n => if p n then u n else a) x = v := by
  induction L generalizing x with
  | nil => simpa using h
  | cons n L ih =>
    rw [List.foldl_cons]
    refine ih (fun m hm => hu m (List.mem_cons_of_mem _ hm)) _ ?_
    by_cases hp : p n
    · exact .inl (by rw [if_pos hp, hu n List.mem_cons_self hp])
    · rw [if_neg hp]
      rcases h with h | ⟨m, hm, hpm⟩
      · exact .inl h
      · rcases List.mem_cons.1 hm with rfl | hm
        · exact absurd hpm hp
        · exact .inr ⟨m, hm, hpm⟩

/-- Never overwriting an entry. -/
theorem foldl_set_none {α β : Type} (L : List β) (p : β → Prop) [DecidablePred p] (u : β → α) (x : α)
    (h : ∀ n ∈ L, ¬ p n) : L.foldl (fun a n => if p n then u n else a) x = x := by
  induction L with
  | nil => rfl
  | cons n L ih =>
    rw [List.foldl_cons, if_neg (h n List.mem_cons_self)]
    exact ih fun m hm => h m (List.mem_cons_of_mem _ hm)

open Cert.ReferenceIdeal.Gen in
/-- The row written over row 0: entry `w` of the update lands at row 0, column `w`. -/
theorem scatter_lands (idx : IVec Cert.ReferenceIdeal.S1 32) (hidx : idx = fun _ => 0#32) (w : Fin 512) (r : Fin 1024) (l : Fin 512) :
    Cert.ReferenceIdeal.scatter_S1024x512_S1_S512_0_0_0_0.resultIdx? (ix1 w) idx = some (ix2 r l) ↔ r = 0 ∧ w = l := by
  have h0 : Cert.ReferenceIdeal.scatter_S1024x512_S1_S512_0_0_0_0.window (ix1 w) 0 = 0 := rfl
  have h1 : Cert.ReferenceIdeal.scatter_S1024x512_S1_S512_0_0_0_0.window (ix1 w) 1 = w.val := rfl
  have s0 : Cert.ReferenceIdeal.scatter_S1024x512_S1_S512_0_0_0_0.start (ix1 w) idx 0 = 0 := by subst hidx; rfl
  have s1 : Cert.ReferenceIdeal.scatter_S1024x512_S1_S512_0_0_0_0.start (ix1 w) idx 1 = 0 := rfl
  refine (Routing.resultIdx?_ix2 (R := 1024) (C := 512) _ (ix1 w) idx r l).trans ?_
  rw [s0, s1, h0, h1, Fin.ext_iff, Fin.ext_iff]
  show _ ↔ r.val = 0 ∧ _
  omega

open Cert.ReferenceIdeal.Gen in
/-- An array with one row written over row 0. -/
theorem scatter_row (X : FVec Ideal S1024x512 .f32) (idx : IVec Cert.ReferenceIdeal.S1 32) (hidx : idx = fun _ => 0#32) (u : FVec Ideal S512 .f32)
    (r : Fin 1024) (l : Fin 512) :
    Host.scatter Cert.ReferenceIdeal.scatter_S1024x512_S1_S512_0_0_0_0 (fun _ b => b) X idx u (ix2 r l) = if r = 0 then u (ix1 l) else X (ix2 r l) := by
  rw [← Routing.scatterIn_finRange, Routing.scatterIn_at]
  split_ifs with hr
  · refine foldl_set_eq _ _ _ _ (fun n _ hn => ?_) _ (.inr ⟨S512.rowMajor (ix1 l), List.mem_finRange _, ?_⟩)
    · revert hn
      generalize S512.rowMajor.symm n = k
      idx_vars k
      intro hn
      rw [((scatter_lands idx hidx _ _ _).1 hn).2]
    · rw [Equiv.symm_apply_apply]
      exact (scatter_lands idx hidx _ _ _).2 ⟨hr, rfl⟩
  · refine foldl_set_none _ _ _ _ fun n _ => ?_
    generalize S512.rowMajor.symm n = k
    idx_vars k
    exact fun hn => hr ((scatter_lands idx hidx _ _ _).1 hn).1

/-- Row `r` of block `t` is row 0 of the whole array exactly where the kernel's row number is 0. -/
theorem row_word (j : Fin 256) :
    IntOp.cmpi .eq (IntOp.addi (BitVec.ofNat 32 j.val) (Scalar.muli (BitVec.ofNat 32 t.val) 256#32)) 0#32
      = BitVec.ofBool (decide (rowOf t j = 0)) := by
  have h : (BitVec.ofNat 32 j.val + BitVec.ofNat 32 t.val * 256#32 = 0#32) ↔ rowOf t j = 0 := by
    rw [Fin.ext_iff, ← BitVec.toNat_inj]
    show _ ↔ t.val * 256 + j.val = 0
    simp only [BitVec.toNat_add, BitVec.toNat_mul, BitVec.toNat_ofNat]
    omega
  rw [WordCmp.cmpi_eq_eq]
  show BitVec.ofBool (decide (BitVec.ofNat 32 j.val + BitVec.ofNat 32 t.val * 256#32 = 0#32)) = _
  rw [decide_eq_decide.2 h]

/-- The number 1/2 as the kernel's literal. -/
theorem half_lit : Ideal.ofBits .f32 0x3F000000#32 = (((1 : ℝ) / 2 : ℝ) : EReal) := by
  simp [Ideal.ofBits, Ideal.ieee, -EReal.coe_mul]; norm_num

/-- A mask entry read as a number is over 1/2 exactly where it is set. -/
theorem mask_word (b : BitVec 1) : (Ideal.ofBits .f32 0x3F000000#32 < (FloatOps.uitofp .f32 b : Ideal .f32)) ↔ b = 1 := by
  rw [half_lit]
  rcases BitVec.eq_zero_or_eq_one b with h | h
  · subst h
    simp [FloatOps.uitofp]
  · subst h
    simp [FloatOps.uitofp]
    rw [show (1 : EReal) = ((1 : ℝ) : EReal) by norm_cast, EReal.coe_lt_coe_iff]
    norm_num

/-- The masked rows, block by block. -/
theorem masked_blk (i : grid0.Coords) (hi : (i 0).val = t.val) (X : FVec Ideal S1024x512 .f32) (pos : FVec Ideal S1x512 .f32) (mask : IVec S512 1)
    (h : S512.ShapeCasts S1x512) :
    maskedK (F := Ideal) i (blk t X) (uitofp (F := Ideal) .f32 (shapeCast S1x512 mask h)) pos = blk t (Cert.ReferenceIdeal.Whole.masked X pos mask) := by
  funext j
  idx_vars j
  rw [blk_apply]
  unfold Cert.ReferenceIdeal.Whole.masked
  have hs := fun l : Fin 512 => scatter_row X (broadcastInDim Cert.ReferenceIdeal.S1 ![] Cert.ReferenceIdeal.Facts₀.bcast_S_S1 (constantI Cert.ReferenceIdeal.S_ 32 0#32)) rfl
    (uitofp .f32 mask) (rowOf t j0) l
  pointwise [maskedK, blk_apply, hs]
  congr 1
  rw [hi, row_word]
  simp only [mask_word]
  have hz : (constant (F := Ideal) Cert.ReferenceIdeal.S_ .f32 0x00000000#32) ix0 = 0 := Ideal.ofBits_zero_f32
  have hu : (FloatOps.uitofp (F := Ideal) .f32 (0#1)) = 0 := by simp [FloatOps.uitofp]
  rcases BitVec.eq_zero_or_eq_one (mask (ix1 j1)) with h | h
  · rw [h]
    by_cases hr : rowOf t j0 = 0
    · rw [if_pos hr, decide_eq_true hr]
      exact hu.symm
    · rw [if_neg hr, decide_eq_false hr]
      rfl
  · rw [h]
    by_cases hr : rowOf t j0 = 0
    · rw [decide_eq_true hr]
      exact hz.symm
    · rw [decide_eq_false hr]
      exact hz.symm

end Cert.Blocks

end
-- ==== Proof.Quant.lean ====
/- The quantiser, block by block: on the ideal numbers and a finite codebook, the kernel's one-hot pick of a
   block of residual rows is that block of the reference's nearest codebook rows. -/
module

public import proofs.«01_k».proof.Proof.Least
public import proofs.«01_k».proof.Proof.Layers

@[expose] public section

set_option maxRecDepth 16384
set_option maxHeartbeats 1000000

noncomputable section

namespace Cert.Blocks

open Cert.KernelIdeal Cert.KernelIdeal.Gen Cert.KernelIdeal.Val Idealize.ShloMosaic Idealize.SL.Sem

variable (t : Fin 4)

/-- The sum of each row of 256 columns, taken over eight lanes and then over the lanes. -/
def rowSumK {F : FTy → Type} [FloatOps F] (s : FVec F S256x256 .f32) : FVec F S256x1 .f32 :=
  let v135 := addf (lanesK s) (k0_pay25 s)
  let v138 := addf (extractStridedSlice S256x4 ![0, 0] v135 slices_S256x8_o0_0_S256x4) (extractStridedSlice S256x4 ![0, 4] v135 slices_S256x8_o0_4_S256x4)
  let v141 := addf (extractStridedSlice S256x2 ![0, 0] v138 slices_S256x4_o0_0_S256x2) (extractStridedSlice S256x2 ![0, 2] v138 slices_S256x4_o0_2_S256x2)
  addf (extractStridedSlice S256x1 ![0, 0] v141 slices_S256x2_o0_0_S256x1) (extractStridedSlice S256x1 ![0, 1] v141 slices_S256x2_o0_1_S256x1)

/-- One lane's sum over the 32 groups of eight columns. -/
theorem lanes_apply (s : FVec Ideal S256x256 .f32) (i : Fin 256) (l : Fin 8) :
    addf (lanesK (F := Ideal) s) (k0_pay25 s) (ix2 i l) = ∑ q : Fin 32, s (ix2 i ⟨q.val * 8 + l.val, by omega⟩) := by
  simp only [Fin.sum_univ_castSucc, Fin.sum_univ_zero, zero_add, Fin.val_last, Fin.val_castSucc, Nat.reduceMul]
  pointwise [lanesK, k0_pay24, k0_pay25]

/-- The lanes' sums add up to the row's sum. -/
theorem rowSum_apply (s : FVec Ideal S256x256 .f32) (i : Fin 256) (z : Fin 1) :
    rowSumK (F := Ideal) s (ix2 i z) = ∑ c : Fin 256, s (ix2 i c) := by
  rw [Fin.sum_univ_tiles 32 8 rfl, Finset.sum_comm, Fin.sum_univ_eight]
  simp only [← lanes_apply]
  unfold rowSumK
  generalize addf (lanesK (F := Ideal) s) (k0_pay25 s) = v
  pointwise []
  abel

/-- The distances of a block of residuals to a codebook's rows, whose squared lengths are `e`. -/
def distK {F : FTy → Type} [FloatOps F] (r : FVec F S256x256 .f32) (cb : Vec F S1x1024x256 .f32) (e : Vec F S1x1024 .f32) : FVec F S256x1024 .f32 :=
  subf (addf (broadcastTo S256x1024 (rowSumK (mulf r r)) broadcasts_S256x1_S256x1024) (broadcastTo S256x1024 e broadcasts_S1x1024_S256x1024))
    (mulf (broadcast S256x1024 (Scalar.ofBits .f32 0x40000000#32))
      (matmul dot_S256x256_S1024x256_S256x1024_1_1_0_0_n_n none r (k0_pay20 cb) (constant S256x1024 .f32 0x00000000#32)))

/-- The one-hot rows are the marks of the distances. -/
theorem onehotK_eq {F : FTy → Type} [FloatOps F] (r : FVec F S256x256 .f32) (cb : Vec F S1x1024x256 .f32) (e : Vec F S1x1024 .f32) :
    onehotK r cb e = markK (distK r cb e) := rfl

/-- The sum of each row of 256 columns, taken by adding halves. -/
def halvesK {F : FTy → Type} [FloatOps F] (s : FVec F S1024x256 .f32) : FVec F S1024x1 .f32 :=
  let s1 := addf (extractStridedSlice S1024x128 ![0, 0] s slices_S1024x256_o0_0_S1024x128) (extractStridedSlice S1024x128 ![0, 128] s slices_S1024x256_o0_128_S1024x128)
  let s2 := addf (extractStridedSlice S1024x64 ![0, 0] s1 slices_S1024x128_o0_0_S1024x64) (extractStridedSlice S1024x64 ![0, 64] s1 slices_S1024x128_o0_64_S1024x64)
  let s3 := addf (extractStridedSlice S1024x32 ![0, 0] s2 slices_S1024x64_o0_0_S1024x32) (extractStridedSlice S1024x32 ![0, 32] s2 slices_S1024x64_o0_32_S1024x32)
  let s4 := addf (extractStridedSlice S1024x16 ![0, 0] s3 slices_S1024x32_o0_0_S1024x16) (extractStridedSlice S1024x16 ![0, 16] s3 slices_S1024x32_o0_16_S1024x16)
  let s5 := addf (extractStridedSlice S1024x8 ![0, 0] s4 slices_S1024x16_o0_0_S1024x8) (extractStridedSlice S1024x8 ![0, 8] s4 slices_S1024x16_o0_8_S1024x8)
  let s6 := addf (extractStridedSlice S1024x4 ![0, 0] s5 slices_S1024x8_o0_0_S1024x4) (extractStridedSlice S1024x4 ![0, 4] s5 slices_S1024x8_o0_4_S1024x4)
  let s7 := addf (extractStridedSlice S1024x2 ![0, 0] s6 slices_S1024x4_o0_0_S1024x2) (extractStridedSlice S1024x2 ![0, 2] s6 slices_S1024x4_o0_2_S1024x2)
  addf (extractStridedSlice S1024x1 ![0, 0] s7 slices_S1024x2_o0_0_S1024x1) (extractStridedSlice S1024x1 ![0, 1] s7 slices_S1024x2_o0_1_S1024x1)

/-- The halves add up to the row's sum. -/
theorem halves_apply (s : FVec Ideal S1024x256 .f32) (i : Fin 1024) (z : Fin 1) :
    halvesK (F := Ideal) s (ix2 i z) = ∑ c : Fin 256, s (ix2 i c) := by
  rw [Fin.sum_univ_two_halves 128 128 rfl, ← Finset.sum_add_distrib, Fin.sum_univ_two_halves 64 64 rfl, ← Finset.sum_add_distrib,
    Fin.sum_univ_two_halves 32 32 rfl, ← Finset.sum_add_distrib, Fin.sum_univ_two_halves 16 16 rfl, ← Finset.sum_add_distrib,
    Fin.sum_univ_two_halves 8 8 rfl, ← Finset.sum_add_distrib, Fin.sum_univ_two_halves 4 4 rfl, ← Finset.sum_add_distrib,
    Fin.sum_univ_two_halves 2 2 rfl, ← Finset.sum_add_distrib, Fin.sum_univ_two]
  pointwise [halvesK]
  done

/-- The identity matrix's entries. -/
theorem eye_apply (a b : Fin 1024) : k0_pay2 (F := Ideal) (ix2 a b) = if a = b then (1 : EReal) else 0 := by
  pointwise [k0_pay2]
  exact flag_eq a b

/-- The squared length of one codebook row. -/
theorem lengths_apply (cb : Vec Ideal S1x1024x256 .f32) (z : Fin 1) (j : Fin 1024) :
    lengthsK (F := Ideal) cb (ix2 z j) = ∑ c : Fin 256, cb (ix3 0 j c) * cb (ix3 0 j c) := by
  have hdef : lengthsK (F := Ideal) cb = shapeCast S1x1024 (matmul dot_S1024x1_S1024x1024_S1x1024_0_0_1_1_n_n (some .fp32)
      (halvesK (mulf (shapeCast S1024x256 cb shapeCasts_S1x1024x256_S1024x256) (shapeCast S1024x256 cb shapeCasts_S1x1024x256_S1024x256))) k0_pay2
      (constant S1x1024 .f32 0x00000000#32)) shapeCasts_S1x1024_S1x1024 := rfl
  rw [hdef]
  pointwise [halves_apply, eye_apply]
  simp only [mul_ite, mul_one, mul_zero, Finset.sum_ite_eq', Finset.mem_univ, ↓reduceIte]

/-- The distances of a block are that block of the reference's distances. -/
theorem dist_blk (R : FVec Ideal S1024x256 .f32) (cb : Vec Ideal S1x1024x256 .f32) (cb' : FVec Ideal S1024x256 .f32)
    (h : ∀ j c, cb (ix3 0 j c) = cb' (ix2 j c)) (r : Fin 256) (k : Fin 1024) :
    distK (F := Ideal) (blk t R) cb (lengthsK cb) (ix2 r k) = Cert.ReferenceIdeal.Whole.dists R cb' (ix2 (rowOf t r) k) := by
  pointwise [distK, Cert.ReferenceIdeal.Whole.dists, rowSum_apply, lengths_apply, blk_apply, h, k0_pay20]
  done

/-- A word numbering a row stays itself when negative words are counted from the end. -/
theorem wrapped_apply (w : IVec Cert.ReferenceIdeal.S1024 32) (r k : Fin 1024) (z : Fin 1) (h : w (ix1 r) = BitVec.ofNat 32 k.val) :
    Cert.ReferenceIdeal.Whole.wrapped w (ix2 r z) = BitVec.ofNat 32 k.val := by
  pointwise [Cert.ReferenceIdeal.Whole.wrapped, h]
  rw [WordCmp.cmpi_slt_eq, toInt_pos, decide_eq_false (by show ¬ ((k.val : ℤ) < 0); omega)]
  rfl

/-- Gathering rows of a table: position `(r, c)` reads column `c` of the row its word numbers. -/
theorem gather_row (cb : FVec Ideal S1024x256 .f32) (v : IVec Cert.ReferenceIdeal.S1024x1 32) (r k : Fin 1024) (c : Fin 256)
    (h : v (ix2 r 0) = BitVec.ofNat 32 k.val) :
    Host.gather Cert.ReferenceIdeal.gather_S1024x256_S1024x1_S1024x256_1_0_n_n_0_1_1256 cb v (ix2 r c) = cb (ix2 k c) := by
  let d := Cert.ReferenceIdeal.gather_S1024x256_S1024x1_S1024x256_1_0_n_n_0_1_1256
  have hk := k.isLt
  have hs : d.siIdx (ix2 r c) ⟨0, by decide⟩ = ix2 r 0 := by
    funext b
    match b with
    | ⟨0, _⟩ => rfl
    | ⟨1, _⟩ => rfl
  unfold Host.gather
  congr 1
  funext a
  apply Fin.ext
  match a with
  | ⟨0, _⟩ =>
    show d.start (ix2 r c) v 0 + d.batchCoord (ix2 r c) 0 + d.offCoord (ix2 r c) 0 = k.val
    have h0 : d.start (ix2 r c) v 0 = min (v (d.siIdx (ix2 r c) ⟨0, by decide⟩)).toInt.toNat (1024 - 1) := rfl
    rw [GatherDims.batchCoord_eq_zero _ _ _ (by decide), GatherDims.offCoord_eq_zero _ _ _ (by decide), h0, hs, h, toInt_pos]
    omega
  | ⟨1, _⟩ =>
    show d.start (ix2 r c) v 1 + d.batchCoord (ix2 r c) 1 + d.offCoord (ix2 r c) 1 = c.val
    have h0 : d.start (ix2 r c) v 1 = 0 := rfl
    have h1 : d.offCoord (ix2 r c) 1 = c.val := rfl
    rw [GatherDims.batchCoord_eq_zero _ _ _ (by decide), h0, h1]
    omega

/-- Looking up the row a word below 1024 numbers. -/
theorem lookup_apply (cb : FVec Ideal S1024x256 .f32) (w : IVec Cert.ReferenceIdeal.S1024 32) (r k : Fin 1024) (c : Fin 256)
    (h : w (ix1 r) = BitVec.ofNat 32 k.val) : Cert.ReferenceIdeal.Whole.lookup cb w (ix2 r c) = cb (ix2 k c) := by
  have hw := fun z => wrapped_apply w r k z h
  pointwise [Cert.ReferenceIdeal.Whole.lookup, hw, gather_row cb _ r k c (hw 0)]
  rw [WordCmp.cmpi_sge_eq, WordCmp.cmpi_sle_eq, toInt_pos]
  have h1 : (1023#32).toInt = 1023 := rfl
  have h0 : (0#32).toInt = 0 := rfl
  have hk := k.isLt
  rw [h0, h1, decide_eq_true (by omega), decide_eq_true (by omega)]
  rfl

/-- Picking by a one-hot row out of a codebook whose second and third parts are zero. -/
theorem pick_apply (oh : FVec Ideal S256x1024 .bf16) (hi mid lo : Vec Ideal S1x1024x256 .bf16) (r : Fin 256) (k : Fin 1024) (c : Fin 256)
    (ho : ∀ l, oh (ix2 r l) = if l = k then (1 : EReal) else 0) (hm : ∀ l, mid (ix3 0 l c) = (0 : EReal)) (hl : ∀ l, lo (ix3 0 l c) = (0 : EReal)) :
    pickK (F := Ideal) oh hi mid lo (ix2 r c) = hi (ix3 0 k c) := by
  pointwise [pickK, k0_pay36, ho, hm, hl]
  simp only [mul_zero, Finset.sum_const_zero, add_zero, ite_mul, one_mul, zero_mul, Finset.sum_ite_eq', Finset.mem_univ, ↓reduceIte]

/-- Every entry of the codebooks is a real number. -/
def AllFinite (cbs : FVec Ideal S4x1024x256 .f32) : Prop := ∀ j, ∃ x : ℝ, cbs j = (x : EReal)

/-- A codebook's first part is the codebook. -/
theorem hi_apply (cbs : FVec Ideal S4x1024x256 .f32) (j : S4x1024x256.Idx) : hiK (F := Ideal) cbs j = cbs j := by
  have h : hiK (F := Ideal) cbs = shapeCast S4x1024x256 cbs shapeCasts_S4x1024x256_S4x1024x256 := rfl
  idx_vars j
  pointwise [h]

/-- A finite codebook's second part is zero. -/
theorem mid_apply (cbs : FVec Ideal S4x1024x256 .f32) (hf : AllFinite cbs) (j : S4x1024x256.Idx) : midK (F := Ideal) cbs j = (0 : EReal) := by
  obtain ⟨x, hx⟩ := hf j
  have h : midK (F := Ideal) cbs = shapeCast S4x1024x256 (subf cbs cbs) shapeCasts_S4x1024x256_S4x1024x256 := rfl
  idx_vars j
  pointwise [h]
  rw [hx, ← EReal.coe_sub, sub_self]
  rfl

/-- A finite codebook's third part is zero. -/
theorem lo_apply (cbs : FVec Ideal S4x1024x256 .f32) (hf : AllFinite cbs) (j : S4x1024x256.Idx) : loK (F := Ideal) cbs j = (0 : EReal) := by
  obtain ⟨x, hx⟩ := hf j
  have h : loK (F := Ideal) cbs = shapeCast S4x1024x256 (subf (subf cbs cbs) (subf cbs cbs)) shapeCasts_S4x1024x256_S4x1024x256 := rfl
  idx_vars j
  pointwise [h]
  rw [hx, ← EReal.coe_sub, sub_self, ← EReal.coe_sub, sub_self]
  rfl

/-- One level of the quantiser, block by block, for codebook `k` read as `cb'` by the reference. -/
theorem level_blk (k : Fin 4) (cbs : FVec Ideal S4x1024x256 .f32) (hf : AllFinite cbs) (R cb' : FVec Ideal S1024x256 .f32)
    (h : ∀ j c, cbs (ix3 k j c) = cb' (ix2 j c)) :
    levelK (F := Ideal) (blk t R) (levels cbs k) = blk t (Cert.ReferenceIdeal.Whole.nearest R cb') := by
  funext j
  idx_vars j
  rw [blk_apply]
  obtain ⟨l, hl⟩ := exists_firstMin (fun l => Cert.ReferenceIdeal.Whole.dists R cb' (ix2 (rowOf t j0) l))
  have href : Cert.ReferenceIdeal.Whole.nearest R cb' (ix2 (rowOf t j0) j1) = cb' (ix2 l j1) :=
    lookup_apply cb' _ _ _ _ (argmins_eq _ _ _ hl)
  rw [href, ← h]
  have hd : FirstMin (fun l => distK (F := Ideal) (blk t R) (book k cbs) (lengthsK (F := Ideal) (book k cbs)) (ix2 j0 l)) l := by
    simp only [dist_blk t R (book k cbs) cb' h]
    exact hl
  have hm := fun l' => markK_apply _ j0 l l' hd
  exact (pick_apply _ _ _ _ j0 l j1 hm (fun l' => mid_apply cbs hf _) (fun l' => lo_apply cbs hf _)).trans (hi_apply cbs _)

/-- The reference's codebook 0, entry by entry. -/
theorem book0_apply (cbs : FVec Ideal S4x1024x256 .f32) (j : Fin 1024) (c : Fin 256) : cbs (ix3 0 j c) = Cert.ReferenceIdeal.Whole.book0 cbs (ix2 j c) := by
  pointwise [Cert.ReferenceIdeal.Whole.book0]

/-- The reference's codebook 1, entry by entry. -/
theorem book1_apply (cbs : FVec Ideal S4x1024x256 .f32) (j : Fin 1024) (c : Fin 256) : cbs (ix3 1 j c) = Cert.ReferenceIdeal.Whole.book1 cbs (ix2 j c) := by
  pointwise [Cert.ReferenceIdeal.Whole.book1]

/-- The reference's codebook 2, entry by entry. -/
theorem book2_apply (cbs : FVec Ideal S4x1024x256 .f32) (j : Fin 1024) (c : Fin 256) : cbs (ix3 2 j c) = Cert.ReferenceIdeal.Whole.book2 cbs (ix2 j c) := by
  pointwise [Cert.ReferenceIdeal.Whole.book2]

/-- The reference's codebook 3, entry by entry. -/
theorem book3_apply (cbs : FVec Ideal S4x1024x256 .f32) (j : Fin 1024) (c : Fin 256) : cbs (ix3 3 j c) = Cert.ReferenceIdeal.Whole.book3 cbs (ix2 j c) := by
  pointwise [Cert.ReferenceIdeal.Whole.book3]

/-- A difference, block by block. -/
theorem sub_blk (X Y : FVec Ideal S1024x256 .f32) : subf (F := Ideal) (φ := .f32) (blk t X) (blk t Y) = blk t (subf X Y) := rfl

end Cert.Blocks

end
-- ==== Proof.Blocks.lean ====
/- All nine results, block by block: what the body computes at grid step `t` on the ideal numbers is block `t`
   of what the reference computes. -/
module

public import proofs.«01_k».proof.Proof.Quant

@[expose] public section

noncomputable section

namespace Cert.Blocks

open Cert.KernelIdeal Cert.KernelIdeal.Gen Cert.KernelIdeal.Val Idealize.ShloMosaic Idealize.SL.Sem
open Cert.ReferenceIdeal.Whole (Args enc pick0 rest1 pick1 rest2 pick2 rest3 pick3 recon)

/-- The blocks the body reads at grid step `t`, from the arguments. -/
def insOf (t : Fin 4) (A : Args Ideal) : Ins Ideal where
  x0 := blk t A.a0
  x1 := uitofp (F := Ideal) .f32 (shapeCast S1x512 A.a23 shapeCasts_S512_S1x512)
  x2 := A.a22
  x3 := A.a1
  x4 := shapeCast S1x128 A.a2 shapeCasts_S128_S1x128
  x5 := shapeCast S1x128 A.a3 shapeCasts_S128_S1x128
  x6 := shapeCast S1x128 A.a4 shapeCasts_S128_S1x128
  x7 := A.a5
  x8 := shapeCast S1x256 A.a6 shapeCasts_S256_S1x256
  x9 := shapeCast S1x256 A.a7 shapeCasts_S256_S1x256
  x10 := shapeCast S1x256 A.a8 shapeCasts_S256_S1x256
  x11 := A.a9
  x12 := shapeCast S1x256 A.a10 shapeCasts_S256_S1x256
  x13 := A.a11
  x14 := shapeCast S1x256 A.a12 shapeCasts_S256_S1x256
  x15 := shapeCast S1x256 A.a13 shapeCasts_S256_S1x256
  x16 := shapeCast S1x256 A.a14 shapeCasts_S256_S1x256
  x17 := A.a15
  x18 := shapeCast S1x128 A.a16 shapeCasts_S128_S1x128
  x19 := shapeCast S1x128 A.a17 shapeCasts_S128_S1x128
  x20 := shapeCast S1x128 A.a18 shapeCasts_S128_S1x128
  x21 := A.a19
  x22 := shapeCast S1x512 A.a20 shapeCasts_S512_S1x512
  x23 := A.a21

variable (t : Fin 4) (A : Args Ideal) (i : grid0.Coords) (hi : (i 0).val = t.val)
include hi

/-- The encoding, block by block. -/
theorem z_blk : zV (F := Ideal) i (insOf t A) = blk t (enc A) := by
  rw [zV_eq]
  unfold encodeK enc Cert.ReferenceIdeal.Whole.encode insOf
  dsimp only
  rw [masked_blk t i hi, lin512_128_blk, norm128_blk, lin128_256_blk, norm256_blk, lin256_256_blk]

variable (hf : AllFinite A.a21)
include hf

/-- Level 1's picked rows, block by block. -/
theorem c0_blk : c0V (F := Ideal) i (insOf t A) (levels A.a21) = blk t (pick0 A) := by
  rw [c0V_eq, z_blk t A i hi]
  exact level_blk t 0 A.a21 hf _ _ (book0_apply _)

/-- The residual after level 1, block by block. -/
theorem r1_blk : r1V (F := Ideal) i (insOf t A) (levels A.a21) = blk t (rest1 A) := by
  rw [r1V_eq, z_blk t A i hi, c0_blk t A i hi hf]
  exact sub_blk t _ _

/-- Level 2's picked rows, block by block. -/
theorem c1_blk : c1V (F := Ideal) i (insOf t A) (levels A.a21) = blk t (pick1 A) := by
  rw [c1V_eq, r1_blk t A i hi hf]
  exact level_blk t 1 A.a21 hf _ _ (book1_apply _)

/-- The residual after level 2, block by block. -/
theorem r2_blk : r2V (F := Ideal) i (insOf t A) (levels A.a21) = blk t (rest2 A) := by
  rw [r2V_eq, r1_blk t A i hi hf, c1_blk t A i hi hf]
  exact sub_blk t _ _

/-- Level 3's picked rows, block by block. -/
theorem c2_blk : c2V (F := Ideal) i (insOf t A) (levels A.a21) = blk t (pick2 A) := by
  rw [c2V_eq, r2_blk t A i hi hf]
  exact level_blk t 2 A.a21 hf _ _ (book2_apply _)

/-- The residual after level 3, block by block. -/
theorem r3_blk : r3V (F := Ideal) i (insOf t A) (levels A.a21) = blk t (rest3 A) := by
  rw [r3V_eq, r2_blk t A i hi hf, c2_blk t A i hi hf]
  exact sub_blk t _ _

/-- Level 4's picked rows, block by block. -/
theorem c3_blk : c3V (F := Ideal) i (insOf t A) (levels A.a21) = blk t (pick3 A) := by
  rw [c3V_eq, r3_blk t A i hi hf]
  exact level_blk t 3 A.a21 hf _ _ (book3_apply _)

/-- The reconstruction, block by block. -/
theorem xhat_blk : xhatV (F := Ideal) i (insOf t A) (levels A.a21) = blk t (recon A) := by
  rw [xhatV_eq, z_blk t A i hi, c0_blk t A i hi hf, c1_blk t A i hi hf, c2_blk t A i hi hf, c3_blk t A i hi hf]
  exact decode_blk t _ _ _ _ _ _ _ _ _ _ _ _ _ _ _ _ _ _ _ _ _ _

end Cert.Blocks

end
-- ==== Proof.Results.lean ====
/- The kernel on the ideal numbers: what it reads at each grid step are the blocks of the arguments, so its nine result
   arrays are the reference's. -/
module

public import proofs.«01_k».proof.Proof.Grid
public import proofs.«01_k».proof.Proof.Blocks

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)
open Cert.ReferenceIdeal.Whole (Args enc pick0 rest1 pick1 rest2 pick2 rest3 pick3 recon)
open Cert.Blocks (blk rowOf insOf AllFinite)

variable (m : (ℓ : Loc nD τ sig) → Buf (Elt Ideal) ℓ) (ρ : Dev nD → PrngReg)

/-- The kernel's arguments as launched on one core. -/
def launchArgs (c : Dev nD) : Args Ideal where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)
  a17 := m ((c : Thread nD τ).loc main_arg17)
  a18 := m ((c : Thread nD τ).loc main_arg18)
  a19 := m ((c : Thread nD τ).loc main_arg19)
  a20 := m ((c : Thread nD τ).loc main_arg20)
  a21 := m ((c : Thread nD τ).loc main_arg21)
  a22 := m ((c : Thread nD τ).loc main_arg22)
  a23 := m ((c : Thread nD τ).loc main_arg23)

/-- Grid step `t` as a block number. -/
def step (t : Fin cfg0.N) : Fin 4 := ⟨t.val, Nat.lt_of_lt_of_eq t.isLt N_0⟩

/-- Grid step `t` is coordinate `t`. -/
theorem coord (t : Fin cfg0.N) : (grid0.coords t 0).val = (step t).val := by
  have ht : t.val < 4 := Nat.lt_of_lt_of_eq t.isLt N_0
  have e0 : (grid0.coords t 0).val = t.val / 1 % 4 := Pipeline.Grid.coords_val t 0 (by decide) rfl
  rw [e0]; show t.val / 1 % 4 = t.val; omega

/-- The rows' window moves one block per step. -/
theorem idx_rows : ∀ t : Fin cfg0.N, win0_0.index t = ![t.val, 0] := (by decide +kernel : ∀ t : Fin grid0.N, _)

/-- The other inputs' windows sit at the origin at every step. -/
theorem idx_whole : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] :=
  (by decide +kernel : ∀ t : Fin grid0.N, _)

/-- The result windows move one block per step. -/
theorem idx_out : ∀ t : Fin cfg0.N, win0_24.index t = ![t.val, 0] ∧ win0_25.index t = ![t.val, 0] ∧ win0_26.index t = ![t.val, 0] ∧ win0_27.index t = ![t.val, 0] ∧ win0_28.index t = ![t.val, 0] ∧ win0_29.index t = ![t.val, 0] ∧ win0_30.index t = ![t.val, 0] ∧ win0_31.index t = ![t.val, 0] ∧ win0_32.index t = ![t.val, 0] :=
  (by decide +kernel : ∀ t : Fin grid0.N, _)

/-! ## What the body reads -/

/-- The rows the body reads at step `t`. -/
theorem x0_eq (c : Dev nD) (t : Fin cfg0.N) : iblk m c 0 t = blk (step t) (launchArgs m c).a0 := by
  funext y
  unfold blk rowOf launchArgs step
  blk_ext! [iblk, V, idx_rows t]
/-- Window 1 at step `t`. -/
theorem x1_eq (c : Dev nD) (t : Fin cfg0.N) : iblk m c 1 t = uitofp (F := Ideal) .f32 (shapeCast S1x512 (launchArgs m c).a23 shapeCasts_S512_S1x512) := by
  unfold launchArgs
  blk_ext! [iblk, V, idx_whole t]

/-- Window 2 at step `t`. -/
theorem x2_eq (c : Dev nD) (t : Fin cfg0.N) : iblk m c 2 t = (launchArgs m c).a22 := by
  unfold launchArgs
  blk_ext! [iblk, V, idx_whole t]

/-- Window 3 at step `t`. -/
theorem x3_eq (c : Dev nD) (t : Fin cfg0.N) : iblk m c 3 t = (launchArgs m c).a1 := by
  unfold launchArgs
  blk_ext! [iblk, V, idx_whole t]

/-- Window 4 at step `t`. -/
theorem x4_eq (c : Dev nD) (t : Fin cfg0.N) : iblk m c 4 t = shapeCast S1x128 (launchArgs m c).a2 shapeCasts_S128_S1x128 := by
  unfold launchArgs
  blk_ext! [iblk, V, idx_whole t]

/-- Window 5 at step `t`. -/
theorem x5_eq (c : Dev nD) (t : Fin cfg0.N) : iblk m c 5 t = shapeCast S1x128 (launchArgs m c).a3 shapeCasts_S128_S1x128 := by
  unfold launchArgs
  blk_ext! [iblk, V, idx_whole t]

/-- Window 6 at step `t`. -/
theorem x6_eq (c : Dev nD) (t : Fin cfg0.N) : iblk m c 6 t = shapeCast S1x128 (launchArgs m c).a4 shapeCasts_S128_S1x128 := by
  unfold launchArgs
  blk_ext! [iblk, V, idx_whole t]

/-- Window 7 at step `t`. -/
theorem x7_eq (c : Dev nD) (t : Fin cfg0.N) : iblk m c 7 t = (launchArgs m c).a5 := by
  unfold launchArgs
  blk_ext! [iblk, V, idx_whole t]

/-- Window 8 at step `t`. -/
theorem x8_eq (c : Dev nD) (t : Fin cfg0.N) : iblk m c 8 t = shapeCast S1x256 (launchArgs m c).a6 shapeCasts_S256_S1x256 := by
  unfold launchArgs
  blk_ext! [iblk, V, idx_whole t]

/-- Window 9 at step `t`. -/
theorem x9_eq (c : Dev nD) (t : Fin cfg0.N) : iblk m c 9 t = shapeCast S1x256 (launchArgs m c).a7 shapeCasts_S256_S1x256 := by
  unfold launchArgs
  blk_ext! [iblk, V, idx_whole t]

/-- Window 10 at step `t`. -/
theorem x10_eq (c : Dev nD) (t : Fin cfg0.N) : iblk m c 10 t = shapeCast S1x256 (launchArgs m c).a8 shapeCasts_S256_S1x256 := by
  unfold launchArgs
  blk_ext! [iblk, V, idx_whole t]

/-- Window 11 at step `t`. -/
theorem x11_eq (c : Dev nD) (t : Fin cfg0.N) : iblk m c 11 t = (launchArgs m c).a9 := by
  unfold launchArgs
  blk_ext! [iblk, V, idx_whole t]

/-- Window 12 at step `t`. -/
theorem x12_eq (c : Dev nD) (t : Fin cfg0.N) : iblk m c 12 t = shapeCast S1x256 (launchArgs m c).a10 shapeCasts_S256_S1x256 := by
  unfold launchArgs
  blk_ext! [iblk, V, idx_whole t]

/-- Window 13 at step `t`. -/
theorem x13_eq (c : Dev nD) (t : Fin cfg0.N) : iblk m c 13 t = (launchArgs m c).a11 := by
  unfold launchArgs
  blk_ext! [iblk, V, idx_whole t]

/-- Window 14 at step `t`. -/
theorem x14_eq (c : Dev nD) (t : Fin cfg0.N) : iblk m c 14 t = shapeCast S1x256 (launchArgs m c).a12 shapeCasts_S256_S1x256 := by
  unfold launchArgs
  blk_ext! [iblk, V, idx_whole t]

/-- Window 15 at step `t`. -/
theorem x15_eq (c : Dev nD) (t : Fin cfg0.N) : iblk m c 15 t = shapeCast S1x256 (launchArgs m c).a13 shapeCasts_S256_S1x256 := by
  unfold launchArgs
  blk_ext! [iblk, V, idx_whole t]

/-- Window 16 at step `t`. -/
theorem x16_eq (c : Dev nD) (t : Fin cfg0.N) : iblk m c 16 t = shapeCast S1x256 (launchArgs m c).a14 shapeCasts_S256_S1x256 := by
  unfold launchArgs
  blk_ext! [iblk, V, idx_whole t]

/-- Window 17 at step `t`. -/
theorem x17_eq (c : Dev nD) (t : Fin cfg0.N) : iblk m c 17 t = (launchArgs m c).a15 := by
  unfold launchArgs
  blk_ext! [iblk, V, idx_whole t]

/-- Window 18 at step `t`. -/
theorem x18_eq (c : Dev nD) (t : Fin cfg0.N) : iblk m c 18 t = shapeCast S1x128 (launchArgs m c).a16 shapeCasts_S128_S1x128 := by
  unfold launchArgs
  blk_ext! [iblk, V, idx_whole t]

/-- Window 19 at step `t`. -/
theorem x19_eq (c : Dev nD) (t : Fin cfg0.N) : iblk m c 19 t = shapeCast S1x128 (launchArgs m c).a17 shapeCasts_S128_S1x128 := by
  unfold launchArgs
  blk_ext! [iblk, V, idx_whole t]

/-- Window 20 at step `t`. -/
theorem x20_eq (c : Dev nD) (t : Fin cfg0.N) : iblk m c 20 t = shapeCast S1x128 (launchArgs m c).a18 shapeCasts_S128_S1x128 := by
  unfold launchArgs
  blk_ext! [iblk, V, idx_whole t]

/-- Window 21 at step `t`. -/
theorem x21_eq (c : Dev nD) (t : Fin cfg0.N) : iblk m c 21 t = (launchArgs m c).a19 := by
  unfold launchArgs
  blk_ext! [iblk, V, idx_whole t]

/-- Window 22 at step `t`. -/
theorem x22_eq (c : Dev nD) (t : Fin cfg0.N) : iblk m c 22 t = shapeCast S1x512 (launchArgs m c).a20 shapeCasts_S512_S1x512 := by
  unfold launchArgs
  blk_ext! [iblk, V, idx_whole t]

/-- All of what the body reads at step `t`. -/
theorem ins_eq (c : Dev nD) (t : Fin cfg0.N) : insAt m c t = insOf (step t) (launchArgs m c) := by
  unfold insAt insOf
  rw [x0_eq, x1_eq, x2_eq, x3_eq, x4_eq, x5_eq, x6_eq, x7_eq, x8_eq, x9_eq, x10_eq, x11_eq, x12_eq, x13_eq, x14_eq, x15_eq, x16_eq, x17_eq, x18_eq, x19_eq, x20_eq, x21_eq, x22_eq, x23_eq]
  rfl

/-! ## The result arrays -/

/-- Result array 0 is the reference's. -/
theorem final_0 (c : Dev nD) (hf : AllFinite (launchArgs m c).a21) : (dats m 0 c).arrAt 24 cfg0.N = recon (launchArgs m c) := by
  refine (dats m 0 c).arrAt_eq_of_covers 24 _ (by decide +kernel) fun t _ y => ?_
  blk_simp
  rw [after_24, ins_eq, x23_eq]
  have e := Cert.Blocks.xhat_blk (step t) (launchArgs m c) (grid0.coords t) (coord t) hf
  refine (congrFun e _).trans ?_
  unfold blk rowOf step
  blk_ext [idx_out t]

/-- Result array 1 is the reference's. -/
theorem final_1 (c : Dev nD) : (dats m 0 c).arrAt 25 cfg0.N = enc (launchArgs m c) := by
  refine (dats m 0 c).arrAt_eq_of_covers 25 _ (by decide +kernel) fun t _ y => ?_
  blk_simp
  rw [after_25, ins_eq]
  have e := Cert.Blocks.z_blk (step t) (launchArgs m c) (grid0.coords t) (coord t)
  refine (congrFun e _).trans ?_
  unfold blk rowOf step
  blk_ext [idx_out t]

/-- Result array 2 is the reference's. -/
theorem final_2 (c : Dev nD) (hf : AllFinite (launchArgs m c).a21) : (dats m 0 c).arrAt 26 cfg0.N = rest1 (launchArgs m c) := by
  refine (dats m 0 c).arrAt_eq_of_covers 26 _ (by decide +kernel) fun t _ y => ?_
  blk_simp
  rw [after_26, ins_eq, x23_eq]
  have e := Cert.Blocks.r1_blk (step t) (launchArgs m c) (grid0.coords t) (coord t) hf
  refine (congrFun e _).trans ?_
  unfold blk rowOf step
  blk_ext [idx_out t]

/-- Result array 3 is the reference's. -/
theorem final_3 (c : Dev nD) (hf : AllFinite (launchArgs m c).a21) : (dats m 0 c).arrAt 27 cfg0.N = rest2 (launchArgs m c) := by
  refine (dats m 0 c).arrAt_eq_of_covers 27 _ (by decide +kernel) fun t _ y => ?_
  blk_simp
  rw [after_27, ins_eq, x23_eq]
  have e := Cert.Blocks.r2_blk (step t) (launchArgs m c) (grid0.coords t) (coord t) hf
  refine (congrFun e _).trans ?_
  unfold blk rowOf step
  blk_ext [idx_out t]

/-- Result array 4 is the reference's. -/
theorem final_4 (c : Dev nD) (hf : AllFinite (launchArgs m c).a21) : (dats m 0 c).arrAt 28 cfg0.N = rest3 (launchArgs m c) := by
  refine (dats m 0 c).arrAt_eq_of_covers 28 _ (by decide +kernel) fun t _ y => ?_
  blk_simp
  rw [after_28, ins_eq, x23_eq]
  have e := Cert.Blocks.r3_blk (step t) (launchArgs m c) (grid0.coords t) (coord t) hf
  refine (congrFun e _).trans ?_
  unfold blk rowOf step
  blk_ext [idx_out t]

/-- Result array 5 is the reference's. -/
theorem final_5 (c : Dev nD) (hf : AllFinite (launchArgs m c).a21) : (dats m 0 c).arrAt 29 cfg0.N = pick0 (launchArgs m c) := by
  refine (dats m 0 c).arrAt_eq_of_covers 29 _ (by decide +kernel) fun t _ y => ?_
  blk_simp
  rw [after_29, ins_eq, x23_eq]
  have e := Cert.Blocks.c0_blk (step t) (launchArgs m c) (grid0.coords t) (coord t) hf
  refine (congrFun e _).trans ?_
  unfold blk rowOf step
  blk_ext [idx_out t]

/-- Result array 6 is the reference's. -/
theorem final_6 (c : Dev nD) (hf : AllFinite (launchArgs m c).a21) : (dats m 0 c).arrAt 30 cfg0.N = pick1 (launchArgs m c) := by
  refine (dats m 0 c).arrAt_eq_of_covers 30 _ (by decide +kernel) fun t _ y => ?_
  blk_simp
  rw [after_30, ins_eq, x23_eq]
  have e := Cert.Blocks.c1_blk (step t) (launchArgs m c) (grid0.coords t) (coord t) hf
  refine (congrFun e _).trans ?_
  unfold blk rowOf step
  blk_ext [idx_out t]

/-- Result array 7 is the reference's. -/
theorem final_7 (c : Dev nD) (hf : AllFinite (launchArgs m c).a21) : (dats m 0 c).arrAt 31 cfg0.N = pick2 (launchArgs m c) := by
  refine (dats m 0 c).arrAt_eq_of_covers 31 _ (by decide +kernel) fun t _ y => ?_
  blk_simp
  rw [after_31, ins_eq, x23_eq]
  have e := Cert.Blocks.c2_blk (step t) (launchArgs m c) (grid0.coords t) (coord t) hf
  refine (congrFun e _).trans ?_
  unfold blk rowOf step
  blk_ext [idx_out t]

/-- Result array 8 is the reference's. -/
theorem final_8 (c : Dev nD) (hf : AllFinite (launchArgs m c).a21) : (dats m 0 c).arrAt 32 cfg0.N = pick3 (launchArgs m c) := by
  refine (dats m 0 c).arrAt_eq_of_covers 32 _ (by decide +kernel) fun t _ y => ?_
  blk_simp
  rw [after_32, ins_eq, x23_eq]
  have e := Cert.Blocks.c3_blk (step t) (launchArgs m c) (grid0.coords t) (coord t) hf
  refine (congrFun e _).trans ?_
  unfold blk rowOf step
  blk_ext [idx_out t]

end Cert.KernelIdeal.Val

end
-- ==== Proof.RefRun.lean ====
/- The reference program as a list of host operations, cut where its stages end, and its run: every execution
   ends with the nine results at the named functions of Proof/RefVals.lean and the arguments unchanged. -/
module

public import proofs.«01_k».proof.Proof.RefVals
public import Idealize.ShloMosaic.Lib.StableHlo.Run
public import Idealize.ShloMosaic.Lib.Pipeline.Frame

@[expose] public section

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Encoder: the operations. -/
def w0 : List (HloOp τ sig (Elt F)) :=
  [ unary main_arg23 main_v0 (uitofp .f32 : (⟨S512, .i1⟩ : BufTy).Contents (Elt F) → (⟨S512, .f32⟩ : BufTy).Contents (Elt F)),
    nullary main_c (constantI S_ 32 0#32),
    unary main_c main_v1 (broadcastInDim S1 ![] bcast_S_S1 : (⟨S_, .i32⟩ : BufTy).Contents (Elt F) → (⟨S1, .i32⟩ : BufTy).Contents (Elt F)),
    ternary main_arg0 main_v1 main_v0 main_v2 ((fun x i u => Host.scatter scatter_S1024x512_S1_S512_0_0_0_0 (fun _ b => b) x i u) : (⟨S1024x512, .f32⟩ : BufTy).Contents (Elt F) → (⟨S1, .i32⟩ : BufTy).Contents (Elt F) → (⟨S512, .f32⟩ : BufTy).Contents (Elt F) → (⟨S1024x512, .f32⟩ : BufTy).Contents (Elt F)),
    unary main_arg23 main_v3 (broadcastInDim S1x512 ![1] bcast_S512_S1x512_1 : (⟨S512, .i1⟩ : BufTy).Contents (Elt F) → (⟨S1x512, .i1⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S1x512, .i1⟩) main_v3) (TRef.of (T := ⟨S1024x512, .i1⟩) main_call0_v1) (broadcastInDim S1024x512 ![0, 1] bcast_S1x512_S1024x512_0_1),
    TRef.unary (TRef.of (T := ⟨S_, .f32⟩) main_call0_v0) (TRef.of (T := ⟨S1024x512, .f32⟩) main_call0_v2) (broadcastInDim S1024x512 ![] bcast_S_S1024x512),
    TRef.ternary (TRef.of (T := ⟨S1024x512, .i1⟩) main_call0_v1) (TRef.of (T := ⟨S1024x512, .f32⟩) main_call0_v2) (TRef.of (T := ⟨S1024x512, .f32⟩) main_v2) (TRef.of (T := ⟨S1024x512, .f32⟩) main_v4) select,
    unary main_arg22 main_v5 (broadcastInDim S1024x512 ![0, 1] bcast_S1x512_S1024x512_0_1 : (⟨S1x512, .f32⟩ : BufTy).Contents (Elt F) → (⟨S1024x512, .f32⟩ : BufTy).Contents (Elt F)),
    binary main_v4 main_v5 main_v6 (addf : (⟨S1024x512, .f32⟩ : BufTy).Contents (Elt F) → (⟨S1024x512, .f32⟩ : BufTy).Contents (Elt F) → (⟨S1024x512, .f32⟩ : BufTy).Contents (Elt F)),
    unary main_arg1 main_v7 ((transpose S512x128 [1, 0] · transposes_S128x512_S512x128_1_0) : (⟨S128x512, .f32⟩ : BufTy).Contents (Elt F) → (⟨S512x128, .f32⟩ : BufTy).Contents (Elt F)),
    binary main_v6 main_v7 main_v8 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)),
    unary main_arg2 main_v9 (broadcastInDim S1x128 ![1] bcast_S128_S1x128_1 : (⟨S128, .f32⟩ : BufTy).Contents (Elt F) → (⟨S1x128, .f32⟩ : BufTy).Contents (Elt F)),
    unary main_v9 main_v10 (broadcastInDim S1024x128 ![0, 1] bcast_S1x128_S1024x128_0_1 : (⟨S1x128, .f32⟩ : BufTy).Contents (Elt F) → (⟨S1024x128, .f32⟩ : BufTy).Contents (Elt F)),
    binary main_v8 main_v10 main_v11 (addf : (⟨S1024x128, .f32⟩ : BufTy).Contents (Elt F) → (⟨S1024x128, .f32⟩ : BufTy).Contents (Elt F) → (⟨S1024x128, .f32⟩ : BufTy).Contents (Elt F)),
    nullary main_cst_0 (constant S_ .f32 0x3F800054#32),
    unary main_cst_0 main_v12 (Host.sqrt : (⟨S_, .f32⟩ : BufTy).Contents (Elt F) → (⟨S_, .f32⟩ : BufTy).Contents (Elt F)),
    unary main_v12 main_v13 (id : (⟨S_, .f32⟩ : BufTy).Contents (Elt F) → (⟨S_, .f32⟩ : BufTy).Contents (Elt F)),
    unary main_v13 main_v14 (broadcastInDim S1024x128 ![] bcast_S_S1024x128 : (⟨S_, .f32⟩ : BufTy).Contents (Elt F) → (⟨S1024x128, .f32⟩ : BufTy).Contents (Elt F)),
    binary main_v11 main_v14 main_v15 (Host.divf : (⟨S1024x128, .f32⟩ : BufTy).Contents (Elt F) → (⟨S1024x128, .f32⟩ : BufTy).Contents (Elt F) → (⟨S1024x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S1024x128 ![0, 1] bcast_S1x128_S1024x128_0_1 : (⟨S1x128, .f32⟩ : BufTy).Contents (Elt F) → (⟨S1024x128, .f32⟩ : BufTy).Contents (Elt F)),
    binary main_v15 main_v17 main_v18 (mulf : (⟨S1024x128, .f32⟩ : BufTy).Contents (Elt F) → (⟨S1024x128, .f32⟩ : BufTy).Contents (Elt F) → (⟨S1024x128, .f32⟩ : BufTy).Contents (Elt F)),
    unary main_arg4 main_v19 (broadcastInDim S1x128 ![1] bcast_S128_S1x128_1 : (⟨S128, .f32⟩ : BufTy).Contents (Elt F) → (⟨S1x128, .f32⟩ : BufTy).Contents (Elt F)),
    unary main_v19 main_v20 (broadcastInDim S1024x128 ![0, 1] bcast_S1x128_S1024x128_0_1 : (⟨S1x128, .f32⟩ : BufTy).Contents (Elt F) → (⟨S1024x128, .f32⟩ : BufTy).Contents (Elt F)),
    binary main_v18 main_v20 main_v21 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x128, .f32⟩) main_call1_v0) (broadcastInDim S1024x128 ![] bcast_S_S1024x128),
    TRef.binary (TRef.of (T := ⟨S1024x128, .f32⟩) main_v21) (TRef.of (T := ⟨S1024x128, .f32⟩) main_call1_v0) (TRef.of (T := ⟨S1024x128, .f32⟩) main_v22) maximumf,
    unary main_arg5 main_v23 ((transpose S128x256 [1, 0] · transposes_S256x128_S128x256_1_0) : (⟨S256x128, .f32⟩ : BufTy).Contents (Elt F) → (⟨S128x256, .f32⟩ : BufTy).Contents (Elt F)),
    binary main_v22 main_v23 main_v24 ((fun l r => Host.dotGeneral dot_S1024x128_S128x256_S1024x256_1_0_0_1_n_n none l r) : (⟨S1024x128, .f32⟩ : BufTy).Contents (Elt F) → (⟨S128x256, .f32⟩ : BufTy).Contents (Elt F) → (⟨S1024x256, .f32⟩ : BufTy).Contents (Elt F)),
    unary main_arg6 main_v25 (broadcastInDim S1x256 ![1] bcast_S256_S1x256_1 : (⟨S256, .f32⟩ : BufTy).Contents (Elt F) → (⟨S1x256, .f32⟩ : BufTy).Contents (Elt F)),
    unary main_v25 main_v26 (broadcastInDim S1024x256 ![0, 1] bcast_S1x256_S1024x256_0_1 : (⟨S1x256, .f32⟩ : BufTy).Contents (Elt F) → (⟨S1024x256, .f32⟩ : BufTy).Contents (Elt F)),
    binary main_v24 main_v26 main_v27 (addf : (⟨S1024x256, .f32⟩ : BufTy).Contents (Elt F) → (⟨S1024x256, .f32⟩ : BufTy).Contents (Elt F) → (⟨S1024x256, .f32⟩ : BufTy).Contents (Elt F)),
    nullary main_cst_1 (constant S_ .f32 0x3F800054#32),
    unary main_cst_1 main_v28 (Host.sqrt : (⟨S_, .f32⟩ : BufTy).Contents (Elt F) → (⟨S_, .f32⟩ : BufTy).Contents (Elt F)),
    unary main_v28 main_v29 (id : (⟨S_, .f32⟩ : BufTy).Contents (Elt F) → (⟨S_, .f32⟩ : BufTy).Contents (Elt F)),
    unary main_v29 main_v30 (broadcastInDim S1024x256 ![] bcast_S_S1024x256 : (⟨S_, .f32⟩ : BufTy).Contents (Elt F) → (⟨S1024x256, .f32⟩ : BufTy).Contents (Elt F)),
    binary main_v27 main_v30 main_v31 (Host.divf : (⟨S1024x256, .f32⟩ : BufTy).Contents (Elt F) → (⟨S1024x256, .f32⟩ : BufTy).Contents (Elt F) → (⟨S1024x256, .f32⟩ : BufTy).Contents (Elt F)),
    unary main_arg7 main_v32 (broadcastInDim S1x256 ![1] bcast_S256_S1x256_1 : (⟨S256, .f32⟩ : BufTy).Contents (Elt F) → (⟨S1x256, .f32⟩ : BufTy).Contents (Elt F)),
    unary main_v32 main_v33 (broadcastInDim S1024x256 ![0, 1] bcast_S1x256_S1024x256_0_1 : (⟨S1x256, .f32⟩ : BufTy).Contents (Elt F) → (⟨S1024x256, .f32⟩ : BufTy).Contents (Elt F)),
    binary main_v31 main_v33 main_v34 (mulf : (⟨S1024x256, .f32⟩ : BufTy).Contents (Elt F) → (⟨S1024x256, .f32⟩ : BufTy).Contents (Elt F) → (⟨S1024x256, .f32⟩ : BufTy).Contents (Elt F)),
    unary main_arg8 main_v35 (broadcastInDim S1x256 ![1] bcast_S256_S1x256_1 : (⟨S256, .f32⟩ : BufTy).Contents (Elt F) → (⟨S1x256, .f32⟩ : BufTy).Contents (Elt F)),
    unary main_v35 main_v36 (broadcastInDim S1024x256 ![0, 1] bcast_S1x256_S1024x256_0_1 : (⟨S1x256, .f32⟩ : BufTy).Contents (Elt F) → (⟨S1024x256, .f32⟩ : BufTy).Contents (Elt F)),
    binary main_v34 main_v36 main_v37 (addf : (⟨S1024x256, .f32⟩ : BufTy).Contents (Elt F) → (⟨S1024x256, .f32⟩ : BufTy).Contents (Elt F) → (⟨S1024x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x256, .f32⟩) main_call2_v0) (broadcastInDim S1024x256 ![] bcast_S_S1024x256),
    TRef.binary (TRef.of (T := ⟨S1024x256, .f32⟩) main_v37) (TRef.of (T := ⟨S1024x256, .f32⟩) main_call2_v0) (TRef.of (T := ⟨S1024x256, .f32⟩) main_v38) maximumf,
    unary main_arg9 main_v39 ((transpose S256x256 [1, 0] · transposes_S256x256_S256x256_1_0) : (⟨S256x256, .f32⟩ : BufTy).Contents (Elt F) → (⟨S256x256, .f32⟩ : BufTy).Contents (Elt F)),
    binary main_v38 main_v39 main_v40 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    unary main_arg10 main_v41 (broadcastInDim S1x256 ![1] bcast_S256_S1x256_1 : (⟨S256, .f32⟩ : BufTy).Contents (Elt F) → (⟨S1x256, .f32⟩ : BufTy).Contents (Elt F)),
    unary main_v41 main_v42 (broadcastInDim S1024x256 ![0, 1] bcast_S1x256_S1024x256_0_1 : (⟨S1x256, .f32⟩ : BufTy).Contents (Elt F) → (⟨S1024x256, .f32⟩ : BufTy).Contents (Elt F)),
    binary main_v40 main_v42 main_v43 (addf : (⟨S1024x256, .f32⟩ : BufTy).Contents (Elt F) → (⟨S1024x256, .f32⟩ : BufTy).Contents (Elt F) → (⟨S1024x256, .f32⟩ : BufTy).Contents (Elt F))]

/-- Level 1, first part: the operations. -/
def w1a : List (HloOp τ sig (Elt F)) :=
  [ unary main_arg21 main_v44 ((extractStridedSlice S1x1024x256 ![0, 0, 0] · slices_S4x1024x256_S1x1024x256_0_0_0) : (⟨S4x1024x256, .f32⟩ : BufTy).Contents (Elt F) → (⟨S1x1024x256, .f32⟩ : BufTy).Contents (Elt F)),
    reshape main_v44 main_v45 (rfl : (.f32 : EltTy) = .f32) shapeCasts_S1x1024x256_S1024x256,
    binary main_v43 main_v43 main_v46 (mulf : (⟨S1024x256, .f32⟩ : BufTy).Contents (Elt F) → (⟨S1024x256, .f32⟩ : BufTy).Contents (Elt F) → (⟨S1024x256, .f32⟩ : BufTy).Contents (Elt F)),
    nullary main_cst_2 (constant S_ .f32 0x00000000#32),
    binary main_v46 main_cst_2 main_v47 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v47 main_v48 (broadcastInDim S1024x1 ![0] bcast_S1024_S1024x1_0 : (⟨S1024, .f32⟩ : BufTy).Contents (Elt F) → (⟨S1024x1, .f32⟩ : BufTy).Contents (Elt F)),
    binary main_v45 main_v45 main_v49 (mulf : (⟨S1024x256, .f32⟩ : BufTy).Contents (Elt F) → (⟨S1024x256, .f32⟩ : BufTy).Contents (Elt F) → (⟨S1024x256, .f32⟩ : BufTy).Contents (Elt F)),
    nullary main_cst_3 (constant S_ .f32 0x00000000#32),
    binary main_v49 main_cst_3 main_v50 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v50 main_v51 (broadcastInDim S1x1024 ![1] bcast_S1024_S1x1024_1 : (⟨S1024, .f32⟩ : BufTy).Contents (Elt F) → (⟨S1x1024, .f32⟩ : BufTy).Contents (Elt F)),
    unary main_v48 main_v52 (broadcastInDim S1024x1024 ![0, 1] bcast_S1024x1_S1024x1024_0_1 : (⟨S1024x1, .f32⟩ : BufTy).Contents (Elt F) → (⟨S1024x1024, .f32⟩ : BufTy).Contents (Elt F)),
    unary main_v51 main_v53 (broadcastInDim S1024x1024 ![0, 1] bcast_S1x1024_S1024x1024_0_1 : (⟨S1x1024, .f32⟩ : BufTy).Contents (Elt F) → (⟨S1024x1024, .f32⟩ : BufTy).Contents (Elt F))]

/-- Level 1, second part: the operations. -/
def w1b : List (HloOp τ sig (Elt F)) :=
  [ binary main_v52 main_v53 main_v54 (addf : (⟨S1024x1024, .f32⟩ : BufTy).Contents (Elt F) → (⟨S1024x1024, .f32⟩ : BufTy).Contents (Elt F) → (⟨S1024x1024, .f32⟩ : BufTy).Contents (Elt F)),
    unary main_v45 main_v55 ((transpose S256x1024 [1, 0] · transposes_S1024x256_S256x1024_1_0) : (⟨S1024x256, .f32⟩ : BufTy).Contents (Elt F) → (⟨S256x1024, .f32⟩ : BufTy).Contents (Elt F)),
    binary main_v43 main_v55 main_v56 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
    nullary main_cst_4 (constant S_ .f32 0x40000000#32),
    unary main_cst_4 main_v57 (broadcastInDim S1024x1024 ![] bcast_S_S1024x1024 : (⟨S_, .f32⟩ : BufTy).Contents (Elt F) → (⟨S1024x1024, .f32⟩ : BufTy).Contents (Elt F)),
    binary main_v57 main_v56 main_v58 (mulf : (⟨S1024x1024, .f32⟩ : BufTy).Contents (Elt F) → (⟨S1024x1024, .f32⟩ : BufTy).Contents (Elt F) → (⟨S1024x1024, .f32⟩ : BufTy).Contents (Elt F)),
    binary main_v54 main_v58 main_v59 (subf : (⟨S1024x1024, .f32⟩ : BufTy).Contents (Elt F) → (⟨S1024x1024, .f32⟩ : BufTy).Contents (Elt F) → (⟨S1024x1024, .f32⟩ : BufTy).Contents (Elt F)),
    TRef.nullary (TRef.of (T := ⟨S1024x1024, .i32⟩) main_call3_v0) (iotaInDim S1024x1024 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S1024x1024, .f32⟩) main_v59) (TRef.of (T := ⟨S1024x1024, .i32⟩) main_call3_v0) (TRef.of (T := ⟨S_, .f32⟩) main_call3_cst) (TRef.of (T := ⟨S_, .i32⟩) main_call3_c) (TRef.of (T := ⟨S1024, .f32⟩) main_call3_v1_0) (fun x y u v j => (Host.argReduce reducer_argmin_f32_i32 x y u v reducesTo_S1024x1024_S1024_d1 h_S_ j).1),
    TRef.quaternary (TRef.of (T := ⟨S1024x1024, .f32⟩) main_v59) (TRef.of (T := ⟨S1024x1024, .i32⟩) main_call3_v0) (TRef.of (T := ⟨S_, .f32⟩) main_call3_cst) (TRef.of (T := ⟨S_, .i32⟩) main_call3_c) (TRef.of (T := ⟨S1024, .i32⟩) main_v60) (fun x y u v j => (Host.argReduce reducer_argmin_f32_i32 x y u v reducesTo_S1024x1024_S1024_d1 h_S_ j).2),
    TRef.nullary (TRef.of (T := ⟨S_, .i32⟩) main_call4_c) (constantI S_ 32 0#32),
    TRef.unary (TRef.of (T := ⟨S_, .i32⟩) main_call4_c) (TRef.of (T := ⟨S1024, .i32⟩) main_call4_v0) (broadcastInDim S1024 ![] bcast_S_S1024),
    TRef.binary (TRef.of (T := ⟨S1024, .i32⟩) main_v60) (TRef.of (T := ⟨S1024, .i32⟩) main_call4_v0) (TRef.of (T := ⟨S1024, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S1024, .i32⟩) main_call4_v2) (broadcastInDim S1024 ![] bcast_S_S1024),
    TRef.binary (TRef.of (T := ⟨S1024, .i32⟩) main_v60) (TRef.of (T := ⟨S1024, .i32⟩) main_call4_v2) (TRef.of (T := ⟨S1024, .i32⟩) main_call4_v3) addi,
    TRef.ternary (TRef.of (T := ⟨S1024, .i1⟩) main_call4_v1) (TRef.of (T := ⟨S1024, .i32⟩) main_call4_v3) (TRef.of (T := ⟨S1024, .i32⟩) main_v60) (TRef.of (T := ⟨S1024, .i32⟩) main_call4_v4) select,
    TRef.unary (TRef.of (T := ⟨S1024, .i32⟩) main_call4_v4) (TRef.of (T := ⟨S1024x1, .i32⟩) main_call4_v5) (broadcastInDim S1024x1 ![0] bcast_S1024_S1024x1_0),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S1024x1, .i32⟩) main_call4_v6) (broadcastInDim S1024x1 ![] bcast_S_S1024x1),
    TRef.binary (TRef.of (T := ⟨S1024x1, .i32⟩) main_call4_v5) (TRef.of (T := ⟨S1024x1, .i32⟩) main_call4_v6) (TRef.of (T := ⟨S1024x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S1024x1, .i32⟩) main_call4_v9) (broadcastInDim S1024x1 ![0, 1] bcast_S1x1_S1024x1_0_1),
    TRef.binary (TRef.of (T := ⟨S1024x1, .i32⟩) main_call4_v5) (TRef.of (T := ⟨S1024x1, .i32⟩) main_call4_v9) (TRef.of (T := ⟨S1024x1, .i1⟩) main_call4_v10) (cmpi .sle),
    TRef.binary (TRef.of (T := ⟨S1024x1, .i1⟩) main_call4_v7) (TRef.of (T := ⟨S1024x1, .i1⟩) main_call4_v10) (TRef.of (T := ⟨S1024x1, .i1⟩) main_call4_v11) andi,
    TRef.nullary (TRef.of (T := ⟨S_, .i1⟩) main_call4_c_3) (constantI S_ 1 1#1),
    TRef.binary (TRef.of (T := ⟨S1024x1, .i1⟩) main_call4_v11) (TRef.of (T := ⟨S_, .i1⟩) main_call4_c_3) (TRef.of (T := ⟨S1024, .i1⟩) main_call4_v12) (fun x v => Host.reduce IntOp.andi x v reducesTo_S1024x1_S1024_d1 h_S_),
    TRef.binary (TRef.of (T := ⟨S1024x256, .f32⟩) main_v45) (TRef.of (T := ⟨S1024x1, .i32⟩) main_call4_v5) (TRef.of (T := ⟨S1024x256, .f32⟩) main_call4_v13) (fun x i => Host.gather gather_S1024x256_S1024x1_S1024x256_1_0_n_n_0_1_1256 x i),
    TRef.unary (TRef.of (T := ⟨S1024, .i1⟩) main_call4_v12) (TRef.of (T := ⟨S1024x256, .i1⟩) main_call4_v14) (broadcastInDim S1024x256 ![0] bcast_S1024_S1024x256_0),
    TRef.nullary (TRef.of (T := ⟨S_, .f32⟩) main_call4_cst) (constant S_ .f32 0x7FC00000#32),
    TRef.unary (TRef.of (T := ⟨S_, .f32⟩) main_call4_cst) (TRef.of (T := ⟨S1024x256, .f32⟩) main_call4_v15) (broadcastInDim S1024x256 ![] bcast_S_S1024x256),
    TRef.ternary (TRef.of (T := ⟨S1024x256, .i1⟩) main_call4_v14) (TRef.of (T := ⟨S1024x256, .f32⟩) main_call4_v13) (TRef.of (T := ⟨S1024x256, .f32⟩) main_call4_v15) (TRef.of (T := ⟨S1024x256, .f32⟩) main_v61) select,
    binary main_v43 main_v61 main_v62 (subf : (⟨S1024x256, .f32⟩ : BufTy).Contents (Elt F) → (⟨S1024x256, .f32⟩ : BufTy).Contents (Elt F) → (⟨S1024x256, .f32⟩ : BufTy).Contents (Elt F))]

/-- Level 2: the operations. -/
def w2 : List (HloOp τ sig (Elt F)) :=
  [ unary main_arg21 main_v63 ((extractStridedSlice S1x1024x256 ![1, 0, 0] · slices_S4x1024x256_S1x1024x256_1_0_0) : (⟨S4x1024x256, .f32⟩ : BufTy).Contents (Elt F) → (⟨S1x1024x256, .f32⟩ : BufTy).Contents (Elt F)),
    reshape main_v63 main_v64 (rfl : (.f32 : EltTy) = .f32) shapeCasts_S1x1024x256_S1024x256,
    binary main_v62 main_v62 main_v65 (mulf : (⟨S1024x256, .f32⟩ : BufTy).Contents (Elt F) → (⟨S1024x256, .f32⟩ : BufTy).Contents (Elt F) → (⟨S1024x256, .f32⟩ : BufTy).Contents (Elt F)),
    nullary main_cst_5 (constant S_ .f32 0x00000000#32),
    binary main_v65 main_cst_5 main_v66 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v66 main_v67 (broadcastInDim S1024x1 ![0] bcast_S1024_S1024x1_0 : (⟨S1024, .f32⟩ : BufTy).Contents (Elt F) → (⟨S1024x1, .f32⟩ : BufTy).Contents (Elt F)),
    binary main_v64 main_v64 main_v68 (mulf : (⟨S1024x256, .f32⟩ : BufTy).Contents (Elt F) → (⟨S1024x256, .f32⟩ : BufTy).Contents (Elt F) → (⟨S1024x256, .f32⟩ : BufTy).Contents (Elt F)),
    nullary main_cst_6 (constant S_ .f32 0x00000000#32),
    binary main_v68 main_cst_6 main_v69 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v69 main_v70 (broadcastInDim S1x1024 ![1] bcast_S1024_S1x1024_1 : (⟨S1024, .f32⟩ : BufTy).Contents (Elt F) → (⟨S1x1024, .f32⟩ : BufTy).Contents (Elt F)),
    unary main_v67 main_v71 (broadcastInDim S1024x1024 ![0, 1] bcast_S1024x1_S1024x1024_0_1 : (⟨S1024x1, .f32⟩ : BufTy).Contents (Elt F) → (⟨S1024x1024, .f32⟩ : BufTy).Contents (Elt F)),
    unary main_v70 main_v72 (broadcastInDim S1024x1024 ![0, 1] bcast_S1x1024_S1024x1024_0_1 : (⟨S1x1024, .f32⟩ : BufTy).Contents (Elt F) → (⟨S1024x1024, .f32⟩ : BufTy).Contents (Elt F)),
    binary main_v71 main_v72 main_v73 (addf : (⟨S1024x1024, .f32⟩ : BufTy).Contents (Elt F) → (⟨S1024x1024, .f32⟩ : BufTy).Contents (Elt F) → (⟨S1024x1024, .f32⟩ : BufTy).Contents (Elt F)),
    unary main_v64 main_v74 ((transpose S256x1024 [1, 0] · transposes_S1024x256_S256x1024_1_0) : (⟨S1024x256, .f32⟩ : BufTy).Contents (Elt F) → (⟨S256x1024, .f32⟩ : BufTy).Contents (Elt F)),
    binary main_v62 main_v74 main_v75 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
    nullary main_cst_7 (constant S_ .f32 0x40000000#32),
    unary main_cst_7 main_v76 (broadcastInDim S1024x1024 ![] bcast_S_S1024x1024 : (⟨S_, .f32⟩ : BufTy).Contents (Elt F) → (⟨S1024x1024, .f32⟩ : BufTy).Contents (Elt F)),
    binary main_v76 main_v75 main_v77 (mulf : (⟨S1024x1024, .f32⟩ : BufTy).Contents (Elt F) → (⟨S1024x1024, .f32⟩ : BufTy).Contents (Elt F) → (⟨S1024x1024, .f32⟩ : BufTy).Contents (Elt F)),
    binary main_v73 main_v77 main_v78 (subf : (⟨S1024x1024, .f32⟩ : BufTy).Contents (Elt F) → (⟨S1024x1024, .f32⟩ : BufTy).Contents (Elt F) → (⟨S1024x1024, .f32⟩ : BufTy).Contents (Elt F)),
    TRef.nullary (TRef.of (T := ⟨S1024x1024, .i32⟩) main_call5_v0) (iotaInDim S1024x1024 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S1024x1024, .f32⟩) main_v78) (TRef.of (T := ⟨S1024x1024, .i32⟩) main_call5_v0) (TRef.of (T := ⟨S_, .f32⟩) main_call5_cst) (TRef.of (T := ⟨S_, .i32⟩) main_call5_c) (TRef.of (T := ⟨S1024, .f32⟩) main_call5_v1_0) (fun x y u v j => (Host.argReduce reducer_argmin_f32_i32 x y u v reducesTo_S1024x1024_S1024_d1 h_S_ j).1),
    TRef.quaternary (TRef.of (T := ⟨S1024x1024, .f32⟩) main_v78) (TRef.of (T := ⟨S1024x1024, .i32⟩) main_call5_v0) (TRef.of (T := ⟨S_, .f32⟩) main_call5_cst) (TRef.of (T := ⟨S_, .i32⟩) main_call5_c) (TRef.of (T := ⟨S1024, .i32⟩) main_v79) (fun x y u v j => (Host.argReduce reducer_argmin_f32_i32 x y u v reducesTo_S1024x1024_S1024_d1 h_S_ j).2),
    TRef.nullary (TRef.of (T := ⟨S_, .i32⟩) main_call6_c) (constantI S_ 32 0#32),
    TRef.unary (TRef.of (T := ⟨S_, .i32⟩) main_call6_c) (TRef.of (T := ⟨S1024, .i32⟩) main_call6_v0) (broadcastInDim S1024 ![] bcast_S_S1024),
    TRef.binary (TRef.of (T := ⟨S1024, .i32⟩) main_v79) (TRef.of (T := ⟨S1024, .i32⟩) main_call6_v0) (TRef.of (T := ⟨S1024, .i1⟩) main_call6_v1) (cmpi .slt),
    TRef.nullary (TRef.of (T := ⟨S_, .i32⟩) main_call6_c_0) (constantI S_ 32 1024#32),
    TRef.unary (TRef.of (T := ⟨S_, .i32⟩) main_call6_c_0) (TRef.of (T := ⟨S1024, .i32⟩) main_call6_v2) (broadcastInDim S1024 ![] bcast_S_S1024),
    TRef.binary (TRef.of (T := ⟨S1024, .i32⟩) main_v79) (TRef.of (T := ⟨S1024, .i32⟩) main_call6_v2) (TRef.of (T := ⟨S1024, .i32⟩) main_call6_v3) addi,
    TRef.ternary (TRef.of (T := ⟨S1024, .i1⟩) main_call6_v1) (TRef.of (T := ⟨S1024, .i32⟩) main_call6_v3) (TRef.of (T := ⟨S1024, .i32⟩) main_v79) (TRef.of (T := ⟨S1024, .i32⟩) main_call6_v4) select,
    TRef.unary (TRef.of (T := ⟨S1024, .i32⟩) main_call6_v4) (TRef.of (T := ⟨S1024x1, .i32⟩) main_call6_v5) (broadcastInDim S1024x1 ![0] bcast_S1024_S1024x1_0),
    TRef.nullary (TRef.of (T := ⟨S1, .i32⟩) main_call6_c_1) (constantI S1 32 1023#32),
    TRef.nullary (TRef.of (T := ⟨S_, .i32⟩) main_call6_c_2) (constantI S_ 32 0#32),
    TRef.unary (TRef.of (T := ⟨S_, .i32⟩) main_call6_c_2) (TRef.of (T := ⟨S1024x1, .i32⟩) main_call6_v6) (broadcastInDim S1024x1 ![] bcast_S_S1024x1),
    TRef.binary (TRef.of (T := ⟨S1024x1, .i32⟩) main_call6_v5) (TRef.of (T := ⟨S1024x1, .i32⟩) main_call6_v6) (TRef.of (T := ⟨S1024x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S1024x1, .i32⟩) main_call6_v9) (broadcastInDim S1024x1 ![0, 1] bcast_S1x1_S1024x1_0_1),
    TRef.binary (TRef.of (T := ⟨S1024x1, .i32⟩) main_call6_v5) (TRef.of (T := ⟨S1024x1, .i32⟩) main_call6_v9) (TRef.of (T := ⟨S1024x1, .i1⟩) main_call6_v10) (cmpi .sle),
    TRef.binary (TRef.of (T := ⟨S1024x1, .i1⟩) main_call6_v7) (TRef.of (T := ⟨S1024x1, .i1⟩) main_call6_v10) (TRef.of (T := ⟨S1024x1, .i1⟩) main_call6_v11) andi,
    TRef.nullary (TRef.of (T := ⟨S_, .i1⟩) main_call6_c_3) (constantI S_ 1 1#1),
    TRef.binary (TRef.of (T := ⟨S1024x1, .i1⟩) main_call6_v11) (TRef.of (T := ⟨S_, .i1⟩) main_call6_c_3) (TRef.of (T := ⟨S1024, .i1⟩) main_call6_v12) (fun x v => Host.reduce IntOp.andi x v reducesTo_S1024x1_S1024_d1 h_S_),
    TRef.binary (TRef.of (T := ⟨S1024x256, .f32⟩) main_v64) (TRef.of (T := ⟨S1024x1, .i32⟩) main_call6_v5) (TRef.of (T := ⟨S1024x256, .f32⟩) main_call6_v13) (fun x i => Host.gather gather_S1024x256_S1024x1_S1024x256_1_0_n_n_0_1_1256 x i),
    TRef.unary (TRef.of (T := ⟨S1024, .i1⟩) main_call6_v12) (TRef.of (T := ⟨S1024x256, .i1⟩) main_call6_v14) (broadcastInDim S1024x256 ![0] bcast_S1024_S1024x256_0),
    TRef.nullary (TRef.of (T := ⟨S_, .f32⟩) main_call6_cst) (constant S_ .f32 0x7FC00000#32),
    TRef.unary (TRef.of (T := ⟨S_, .f32⟩) main_call6_cst) (TRef.of (T := ⟨S1024x256, .f32⟩) main_call6_v15) (broadcastInDim S1024x256 ![] bcast_S_S1024x256),
    TRef.ternary (TRef.of (T := ⟨S1024x256, .i1⟩) main_call6_v14) (TRef.of (T := ⟨S1024x256, .f32⟩) main_call6_v13) (TRef.of (T := ⟨S1024x256, .f32⟩) main_call6_v15) (TRef.of (T := ⟨S1024x256, .f32⟩) main_v80) select,
    binary main_v62 main_v80 main_v81 (subf : (⟨S1024x256, .f32⟩ : BufTy).Contents (Elt F) → (⟨S1024x256, .f32⟩ : BufTy).Contents (Elt F) → (⟨S1024x256, .f32⟩ : BufTy).Contents (Elt F))]

/-- Level 3: the operations. -/
def w3 : List (HloOp τ sig (Elt F)) :=
  [ unary main_arg21 main_v82 ((extractStridedSlice S1x1024x256 ![2, 0, 0] · slices_S4x1024x256_S1x1024x256_2_0_0) : (⟨S4x1024x256, .f32⟩ : BufTy).Contents (Elt F) → (⟨S1x1024x256, .f32⟩ : BufTy).Contents (Elt F)),
    reshape main_v82 main_v83 (rfl : (.f32 : EltTy) = .f32) shapeCasts_S1x1024x256_S1024x256,
    binary main_v81 main_v81 main_v84 (mulf : (⟨S1024x256, .f32⟩ : BufTy).Contents (Elt F) → (⟨S1024x256, .f32⟩ : BufTy).Contents (Elt F) → (⟨S1024x256, .f32⟩ : BufTy).Contents (Elt F)),
    nullary main_cst_8 (constant S_ .f32 0x00000000#32),
    binary main_v84 main_cst_8 main_v85 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v85 main_v86 (broadcastInDim S1024x1 ![0] bcast_S1024_S1024x1_0 : (⟨S1024, .f32⟩ : BufTy).Contents (Elt F) → (⟨S1024x1, .f32⟩ : BufTy).Contents (Elt F)),
    binary main_v83 main_v83 main_v87 (mulf : (⟨S1024x256, .f32⟩ : BufTy).Contents (Elt F) → (⟨S1024x256, .f32⟩ : BufTy).Contents (Elt F) → (⟨S1024x256, .f32⟩ : BufTy).Contents (Elt F)),
    nullary main_cst_9 (constant S_ .f32 0x00000000#32),
    binary main_v87 main_cst_9 main_v88 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v88 main_v89 (broadcastInDim S1x1024 ![1] bcast_S1024_S1x1024_1 : (⟨S1024, .f32⟩ : BufTy).Contents (Elt F) → (⟨S1x1024, .f32⟩ : BufTy).Contents (Elt F)),
    unary main_v86 main_v90 (broadcastInDim S1024x1024 ![0, 1] bcast_S1024x1_S1024x1024_0_1 : (⟨S1024x1, .f32⟩ : BufTy).Contents (Elt F) → (⟨S1024x1024, .f32⟩ : BufTy).Contents (Elt F)),
    unary main_v89 main_v91 (broadcastInDim S1024x1024 ![0, 1] bcast_S1x1024_S1024x1024_0_1 : (⟨S1x1024, .f32⟩ : BufTy).Contents (Elt F) → (⟨S1024x1024, .f32⟩ : BufTy).Contents (Elt F)),
    binary main_v90 main_v91 main_v92 (addf : (⟨S1024x1024, .f32⟩ : BufTy).Contents (Elt F) → (⟨S1024x1024, .f32⟩ : BufTy).Contents (Elt F) → (⟨S1024x1024, .f32⟩ : BufTy).Contents (Elt F)),
    unary main_v83 main_v93 ((transpose S256x1024 [1, 0] · transposes_S1024x256_S256x1024_1_0) : (⟨S1024x256, .f32⟩ : BufTy).Contents (Elt F) → (⟨S256x1024, .f32⟩ : BufTy).Contents (Elt F)),
    binary main_v81 main_v93 main_v94 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
    nullary main_cst_10 (constant S_ .f32 0x40000000#32),
    unary main_cst_10 main_v95 (broadcastInDim S1024x1024 ![] bcast_S_S1024x1024 : (⟨S_, .f32⟩ : BufTy).Contents (Elt F) → (⟨S1024x1024, .f32⟩ : BufTy).Contents (Elt F)),
    binary main_v95 main_v94 main_v96 (mulf : (⟨S1024x1024, .f32⟩ : BufTy).Contents (Elt F) → (⟨S1024x1024, .f32⟩ : BufTy).Contents (Elt F) → (⟨S1024x1024, .f32⟩ : BufTy).Contents (Elt F)),
    binary main_v92 main_v96 main_v97 (subf : (⟨S1024x1024, .f32⟩ : BufTy).Contents (Elt F) → (⟨S1024x1024, .f32⟩ : BufTy).Contents (Elt F) → (⟨S1024x1024, .f32⟩ : BufTy).Contents (Elt F)),
    TRef.nullary (TRef.of (T := ⟨S1024x1024, .i32⟩) main_call7_v0) (iotaInDim S1024x1024 32 1),
    TRef.nullary (TRef.of (T := ⟨S_, .f32⟩) main_call7_cst) (constant S_ .f32 0x7F800000#32),
    TRef.nullary (TRef.of (T := ⟨S_, .i32⟩) main_call7_c) (constantI S_ 32 0#32),
    TRef.quaternary (TRef.of (T := ⟨S1024x1024, .f32⟩) main_v97) (TRef.of (T := ⟨S1024x1024, .i32⟩) main_call7_v0) (TRef.of (T := ⟨S_, .f32⟩) main_call7_cst) (TRef.of (T := ⟨S_, .i32⟩) main_call7_c) (TRef.of (T := ⟨S1024, .f32⟩) main_call7_v1_0) (fun x y u v j => (Host.argReduce reducer_argmin_f32_i32 x y u v reducesTo_S1024x1024_S1024_d1 h_S_ j).1),
    TRef.quaternary (TRef.of (T := ⟨S1024x1024, .f32⟩) main_v97) (TRef.of (T := ⟨S1024x1024, .i32⟩) main_call7_v0) (TRef.of (T := ⟨S_, .f32⟩) main_call7_cst) (TRef.of (T := ⟨S_, .i32⟩) main_call7_c) (TRef.of (T := ⟨S1024, .i32⟩) main_v98) (fun x y u v j => (Host.argReduce reducer_argmin_f32_i32 x y u v reducesTo_S1024x1024_S1024_d1 h_S_ j).2),
    TRef.nullary (TRef.of (T := ⟨S_, .i32⟩) main_call8_c) (constantI S_ 32 0#32),
    TRef.unary (TRef.of (T := ⟨S_, .i32⟩) main_call8_c) (TRef.of (T := ⟨S1024, .i32⟩) main_call8_v0) (broadcastInDim S1024 ![] bcast_S_S1024),
    TRef.binary (TRef.of (T := ⟨S1024, .i32⟩) main_v98) (TRef.of (T := ⟨S1024, .i32⟩) main_call8_v0) (TRef.of (T := ⟨S1024, .i1⟩) main_call8_v1) (cmpi .slt),
    TRef.nullary (TRef.of (T := ⟨S_, .i32⟩) main_call8_c_0) (constantI S_ 32 1024#32),
    TRef.unary (TRef.of (T := ⟨S_, .i32⟩) main_call8_c_0) (TRef.of (T := ⟨S1024, .i32⟩) main_call8_v2) (broadcastInDim S1024 ![] bcast_S_S1024),
    TRef.binary (TRef.of (T := ⟨S1024, .i32⟩) main_v98) (TRef.of (T := ⟨S1024, .i32⟩) main_call8_v2) (TRef.of (T := ⟨S1024, .i32⟩) main_call8_v3) addi,
    TRef.ternary (TRef.of (T := ⟨S1024, .i1⟩) main_call8_v1) (TRef.of (T := ⟨S1024, .i32⟩) main_call8_v3) (TRef.of (T := ⟨S1024, .i32⟩) main_v98) (TRef.of (T := ⟨S1024, .i32⟩) main_call8_v4) select,
    TRef.unary (TRef.of (T := ⟨S1024, .i32⟩) main_call8_v4) (TRef.of (T := ⟨S1024x1, .i32⟩) main_call8_v5) (broadcastInDim S1024x1 ![0] bcast_S1024_S1024x1_0),
    TRef.nullary (TRef.of (T := ⟨S1, .i32⟩) main_call8_c_1) (constantI S1 32 1023#32),
    TRef.nullary (TRef.of (T := ⟨S_, .i32⟩) main_call8_c_2) (constantI S_ 32 0#32),
    TRef.unary (TRef.of (T := ⟨S_, .i32⟩) main_call8_c_2) (TRef.of (T := ⟨S1024x1, .i32⟩) main_call8_v6) (broadcastInDim S1024x1 ![] bcast_S_S1024x1),
    TRef.binary (TRef.of (T := ⟨S1024x1, .i32⟩) main_call8_v5) (TRef.of (T := ⟨S1024x1, .i32⟩) main_call8_v6) (TRef.of (T := ⟨S1024x1, .i1⟩) main_call8_v7) (cmpi .sge),
    TRef.unary (TRef.of (T := ⟨S1, .i32⟩) main_call8_c_1) (TRef.of (T := ⟨S1x1, .i32⟩) main_call8_v8) (broadcastInDim S1x1 ![1] bcast_S1_S1x1_1),
    TRef.unary (TRef.of (T := ⟨S1x1, .i32⟩) main_call8_v8) (TRef.of (T := ⟨S1024x1, .i32⟩) main_call8_v9) (broadcastInDim S1024x1 ![0, 1] bcast_S1x1_S1024x1_0_1),
    TRef.binary (TRef.of (T := ⟨S1024x1, .i32⟩) main_call8_v5) (TRef.of (T := ⟨S1024x1, .i32⟩) main_call8_v9) (TRef.of (T := ⟨S1024x1, .i1⟩) main_call8_v10) (cmpi .sle),
    TRef.binary (TRef.of (T := ⟨S1024x1, .i1⟩) main_call8_v7) (TRef.of (T := ⟨S1024x1, .i1⟩) main_call8_v10) (TRef.of (T := ⟨S1024x1, .i1⟩) main_call8_v11) andi,
    TRef.nullary (TRef.of (T := ⟨S_, .i1⟩) main_call8_c_3) (constantI S_ 1 1#1),
    TRef.binary (TRef.of (T := ⟨S1024x1, .i1⟩) main_call8_v11) (TRef.of (T := ⟨S_, .i1⟩) main_call8_c_3) (TRef.of (T := ⟨S1024, .i1⟩) main_call8_v12) (fun x v => Host.reduce IntOp.andi x v reducesTo_S1024x1_S1024_d1 h_S_),
    TRef.binary (TRef.of (T := ⟨S1024x256, .f32⟩) main_v83) (TRef.of (T := ⟨S1024x1, .i32⟩) main_call8_v5) (TRef.of (T := ⟨S1024x256, .f32⟩) main_call8_v13) (fun x i => Host.gather gather_S1024x256_S1024x1_S1024x256_1_0_n_n_0_1_1256 x i),
    TRef.unary (TRef.of (T := ⟨S1024, .i1⟩) main_call8_v12) (TRef.of (T := ⟨S1024x256, .i1⟩) main_call8_v14) (broadcastInDim S1024x256 ![0] bcast_S1024_S1024x256_0),
    TRef.nullary (TRef.of (T := ⟨S_, .f32⟩) main_call8_cst) (constant S_ .f32 0x7FC00000#32),
    TRef.unary (TRef.of (T := ⟨S_, .f32⟩) main_call8_cst) (TRef.of (T := ⟨S1024x256, .f32⟩) main_call8_v15) (broadcastInDim S1024x256 ![] bcast_S_S1024x256),
    TRef.ternary (TRef.of (T := ⟨S1024x256, .i1⟩) main_call8_v14) (TRef.of (T := ⟨S1024x256, .f32⟩) main_call8_v13) (TRef.of (T := ⟨S1024x256, .f32⟩) main_call8_v15) (TRef.of (T := ⟨S1024x256, .f32⟩) main_v99) select,
    binary main_v81 main_v99 main_v100 (subf : (⟨S1024x256, .f32⟩ : BufTy).Contents (Elt F) → (⟨S1024x256, .f32⟩ : BufTy).Contents (Elt F) → (⟨S1024x256, .f32⟩ : BufTy).Contents (Elt F))]

/-- Level 4, first part: the operations. -/
def w4a : List (HloOp τ sig (Elt F)) :=
  [ unary main_arg21 main_v101 ((extractStridedSlice S1x1024x256 ![3, 0, 0] · slices_S4x1024x256_S1x1024x256_3_0_0) : (⟨S4x1024x256, .f32⟩ : BufTy).Contents (Elt F) → (⟨S1x1024x256, .f32⟩ : BufTy).Contents (Elt F)),
    reshape main_v101 main_v102 (rfl : (.f32 : EltTy) = .f32) shapeCasts_S1x1024x256_S1024x256,
    binary main_v100 main_v100 main_v103 (mulf : (⟨S1024x256, .f32⟩ : BufTy).Contents (Elt F) → (⟨S1024x256, .f32⟩ : BufTy).Contents (Elt F) → (⟨S1024x256, .f32⟩ : BufTy).Contents (Elt F)),
    nullary main_cst_11 (constant S_ .f32 0x00000000#32),
    binary main_v103 main_cst_11 main_v104 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v104 main_v105 (broadcastInDim S1024x1 ![0] bcast_S1024_S1024x1_0 : (⟨S1024, .f32⟩ : BufTy).Contents (Elt F) → (⟨S1024x1, .f32⟩ : BufTy).Contents (Elt F))]

/-- Level 4, second part: the operations. -/
def w4b : List (HloOp τ sig (Elt F)) :=
  [ binary main_v102 main_v102 main_v106 (mulf : (⟨S1024x256, .f32⟩ : BufTy).Contents (Elt F) → (⟨S1024x256, .f32⟩ : BufTy).Contents (Elt F) → (⟨S1024x256, .f32⟩ : BufTy).Contents (Elt F)),
    nullary main_cst_12 (constant S_ .f32 0x00000000#32),
    binary main_v106 main_cst_12 main_v107 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v107 main_v108 (broadcastInDim S1x1024 ![1] bcast_S1024_S1x1024_1 : (⟨S1024, .f32⟩ : BufTy).Contents (Elt F) → (⟨S1x1024, .f32⟩ : BufTy).Contents (Elt F)),
    unary main_v105 main_v109 (broadcastInDim S1024x1024 ![0, 1] bcast_S1024x1_S1024x1024_0_1 : (⟨S1024x1, .f32⟩ : BufTy).Contents (Elt F) → (⟨S1024x1024, .f32⟩ : BufTy).Contents (Elt F)),
    unary main_v108 main_v110 (broadcastInDim S1024x1024 ![0, 1] bcast_S1x1024_S1024x1024_0_1 : (⟨S1x1024, .f32⟩ : BufTy).Contents (Elt F) → (⟨S1024x1024, .f32⟩ : BufTy).Contents (Elt F)),
    binary main_v109 main_v110 main_v111 (addf : (⟨S1024x1024, .f32⟩ : BufTy).Contents (Elt F) → (⟨S1024x1024, .f32⟩ : BufTy).Contents (Elt F) → (⟨S1024x1024, .f32⟩ : BufTy).Contents (Elt F)),
    unary main_v102 main_v112 ((transpose S256x1024 [1, 0] · transposes_S1024x256_S256x1024_1_0) : (⟨S1024x256, .f32⟩ : BufTy).Contents (Elt F) → (⟨S256x1024, .f32⟩ : BufTy).Contents (Elt F)),
    binary main_v100 main_v112 main_v113 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
    nullary main_cst_13 (constant S_ .f32 0x40000000#32),
    unary main_cst_13 main_v114 (broadcastInDim S1024x1024 ![] bcast_S_S1024x1024 : (⟨S_, .f32⟩ : BufTy).Contents (Elt F) → (⟨S1024x1024, .f32⟩ : BufTy).Contents (Elt F)),
    binary main_v114 main_v113 main_v115 (mulf : (⟨S1024x1024, .f32⟩ : BufTy).Contents (Elt F) → (⟨S1024x1024, .f32⟩ : BufTy).Contents (Elt F) → (⟨S1024x1024, .f32⟩ : BufTy).Contents (Elt F)),
    binary main_v111 main_v115 main_v116 (subf : (⟨S1024x1024, .f32⟩ : BufTy).Contents (Elt F) → (⟨S1024x1024, .f32⟩ : BufTy).Contents (Elt F) → (⟨S1024x1024, .f32⟩ : BufTy).Contents (Elt F)),
    TRef.nullary (TRef.of (T := ⟨S1024x1024, .i32⟩) main_call9_v0) (iotaInDim S1024x1024 32 1),
    TRef.nullary (TRef.of (T := ⟨S_, .f32⟩) main_call9_cst) (constant S_ .f32 0x7F800000#32),
    TRef.nullary (TRef.of (T := ⟨S_, .i32⟩) main_call9_c) (constantI S_ 32 0#32),
    TRef.quaternary (TRef.of (T := ⟨S1024x1024, .f32⟩) main_v116) (TRef.of (T := ⟨S1024x1024, .i32⟩) main_call9_v0) (TRef.of (T := ⟨S_, .f32⟩) main_call9_cst) (TRef.of (T := ⟨S_, .i32⟩) main_call9_c) (TRef.of (T := ⟨S1024, .f32⟩) main_call9_v1_0) (fun x y u v j => (Host.argReduce reducer_argmin_f32_i32 x y u v reducesTo_S1024x1024_S1024_d1 h_S_ j).1),
    TRef.quaternary (TRef.of (T := ⟨S1024x1024, .f32⟩) main_v116) (TRef.of (T := ⟨S1024x1024, .i32⟩) main_call9_v0) (TRef.of (T := ⟨S_, .f32⟩) main_call9_cst) (TRef.of (T := ⟨S_, .i32⟩) main_call9_c) (TRef.of (T := ⟨S1024, .i32⟩) main_v117) (fun x y u v j => (Host.argReduce reducer_argmin_f32_i32 x y u v reducesTo_S1024x1024_S1024_d1 h_S_ j).2),
    TRef.nullary (TRef.of (T := ⟨S_, .i32⟩) main_call10_c) (constantI S_ 32 0#32),
    TRef.unary (TRef.of (T := ⟨S_, .i32⟩) main_call10_c) (TRef.of (T := ⟨S1024, .i32⟩) main_call10_v0) (broadcastInDim S1024 ![] bcast_S_S1024),
    TRef.binary (TRef.of (T := ⟨S1024, .i32⟩) main_v117) (TRef.of (T := ⟨S1024, .i32⟩) main_call10_v0) (TRef.of (T := ⟨S1024, .i1⟩) main_call10_v1) (cmpi .slt),
    TRef.nullary (TRef.of (T := ⟨S_, .i32⟩) main_call10_c_0) (constantI S_ 32 1024#32),
    TRef.unary (TRef.of (T := ⟨S_, .i32⟩) main_call10_c_0) (TRef.of (T := ⟨S1024, .i32⟩) main_call10_v2) (broadcastInDim S1024 ![] bcast_S_S1024),
    TRef.binary (TRef.of (T := ⟨S1024, .i32⟩) main_v117) (TRef.of (T := ⟨S1024, .i32⟩) main_call10_v2) (TRef.of (T := ⟨S1024, .i32⟩) main_call10_v3) addi,
    TRef.ternary (TRef.of (T := ⟨S1024, .i1⟩) main_call10_v1) (TRef.of (T := ⟨S1024, .i32⟩) main_call10_v3) (TRef.of (T := ⟨S1024, .i32⟩) main_v117) (TRef.of (T := ⟨S1024, .i32⟩) main_call10_v4) select,
    TRef.unary (TRef.of (T := ⟨S1024, .i32⟩) main_call10_v4) (TRef.of (T := ⟨S1024x1, .i32⟩) main_call10_v5) (broadcastInDim S1024x1 ![0] bcast_S1024_S1024x1_0),
    TRef.nullary (TRef.of (T := ⟨S1, .i32⟩) main_call10_c_1) (constantI S1 32 1023#32),
    TRef.nullary (TRef.of (T := ⟨S_, .i32⟩) main_call10_c_2) (constantI S_ 32 0#32),
    TRef.unary (TRef.of (T := ⟨S_, .i32⟩) main_call10_c_2) (TRef.of (T := ⟨S1024x1, .i32⟩) main_call10_v6) (broadcastInDim S1024x1 ![] bcast_S_S1024x1),
    TRef.binary (TRef.of (T := ⟨S1024x1, .i32⟩) main_call10_v5) (TRef.of (T := ⟨S1024x1, .i32⟩) main_call10_v6) (TRef.of (T := ⟨S1024x1, .i1⟩) main_call10_v7) (cmpi .sge),
    TRef.unary (TRef.of (T := ⟨S1, .i32⟩) main_call10_c_1) (TRef.of (T := ⟨S1x1, .i32⟩) main_call10_v8) (broadcastInDim S1x1 ![1] bcast_S1_S1x1_1),
    TRef.unary (TRef.of (T := ⟨S1x1, .i32⟩) main_call10_v8) (TRef.of (T := ⟨S1024x1, .i32⟩) main_call10_v9) (broadcastInDim S1024x1 ![0, 1] bcast_S1x1_S1024x1_0_1),
    TRef.binary (TRef.of (T := ⟨S1024x1, .i32⟩) main_call10_v5) (TRef.of (T := ⟨S1024x1, .i32⟩) main_call10_v9) (TRef.of (T := ⟨S1024x1, .i1⟩) main_call10_v10) (cmpi .sle),
    TRef.binary (TRef.of (T := ⟨S1024x1, .i1⟩) main_call10_v7) (TRef.of (T := ⟨S1024x1, .i1⟩) main_call10_v10) (TRef.of (T := ⟨S1024x1, .i1⟩) main_call10_v11) andi,
    TRef.nullary (TRef.of (T := ⟨S_, .i1⟩) main_call10_c_3) (constantI S_ 1 1#1),
    TRef.binary (TRef.of (T := ⟨S1024x1, .i1⟩) main_call10_v11) (TRef.of (T := ⟨S_, .i1⟩) main_call10_c_3) (TRef.of (T := ⟨S1024, .i1⟩) main_call10_v12) (fun x v => Host.reduce IntOp.andi x v reducesTo_S1024x1_S1024_d1 h_S_),
    TRef.binary (TRef.of (T := ⟨S1024x256, .f32⟩) main_v102) (TRef.of (T := ⟨S1024x1, .i32⟩) main_call10_v5) (TRef.of (T := ⟨S1024x256, .f32⟩) main_call10_v13) (fun x i => Host.gather gather_S1024x256_S1024x1_S1024x256_1_0_n_n_0_1_1256 x i),
    TRef.unary (TRef.of (T := ⟨S1024, .i1⟩) main_call10_v12) (TRef.of (T := ⟨S1024x256, .i1⟩) main_call10_v14) (broadcastInDim S1024x256 ![0] bcast_S1024_S1024x256_0),
    TRef.nullary (TRef.of (T := ⟨S_, .f32⟩) main_call10_cst) (constant S_ .f32 0x7FC00000#32),
    TRef.unary (TRef.of (T := ⟨S_, .f32⟩) main_call10_cst) (TRef.of (T := ⟨S1024x256, .f32⟩) main_call10_v15) (broadcastInDim S1024x256 ![] bcast_S_S1024x256),
    TRef.ternary (TRef.of (T := ⟨S1024x256, .i1⟩) main_call10_v14) (TRef.of (T := ⟨S1024x256, .f32⟩) main_call10_v13) (TRef.of (T := ⟨S1024x256, .f32⟩) main_call10_v15) (TRef.of (T := ⟨S1024x256, .f32⟩) main_v118) select]

/-- Decoder, first part: the operations. -/
def w5a : List (HloOp τ sig (Elt F)) :=
  [ unary main_v61 main_v119 (broadcastInDim S1x1024x256 ![1, 2] bcast_S1024x256_S1x1024x256_1_2 : (⟨S1024x256, .f32⟩ : BufTy).Contents (Elt F) → (⟨S1x1024x256, .f32⟩ : BufTy).Contents (Elt F)),
    unary main_v80 main_v120 (broadcastInDim S1x1024x256 ![1, 2] bcast_S1024x256_S1x1024x256_1_2 : (⟨S1024x256, .f32⟩ : BufTy).Contents (Elt F) → (⟨S1x1024x256, .f32⟩ : BufTy).Contents (Elt F)),
    unary main_v99 main_v121 (broadcastInDim S1x1024x256 ![1, 2] bcast_S1024x256_S1x1024x256_1_2 : (⟨S1024x256, .f32⟩ : BufTy).Contents (Elt F) → (⟨S1x1024x256, .f32⟩ : BufTy).Contents (Elt F)),
    unary main_v118 main_v122 (broadcastInDim S1x1024x256 ![1, 2] bcast_S1024x256_S1x1024x256_1_2 : (⟨S1024x256, .f32⟩ : BufTy).Contents (Elt F) → (⟨S1x1024x256, .f32⟩ : BufTy).Contents (Elt F)),
    nary ![main_v119, main_v120, main_v121, main_v122] main_v123 (fun u => Whole.stack4 (F := F) (u 0) (u 1) (u 2) (u 3)),
    nullary main_cst_14 (constant S_ .f32 0x00000000#32),
    binary main_v123 main_cst_14 main_v124 ((fun x v => Host.reduceAdd x v reducesTo_S4x1024x256_S1024x256_d0 h_S_) : (⟨S4x1024x256, .f32⟩ : BufTy).Contents (Elt F) → (⟨S_, .f32⟩ : BufTy).Contents (Elt F) → (⟨S1024x256, .f32⟩ : BufTy).Contents (Elt F)),
    binary main_v124 main_v43 main_v125 (subf : (⟨S1024x256, .f32⟩ : BufTy).Contents (Elt F) → (⟨S1024x256, .f32⟩ : BufTy).Contents (Elt F) → (⟨S1024x256, .f32⟩ : BufTy).Contents (Elt F)),
    binary main_v43 main_v125 main_v126 (addf : (⟨S1024x256, .f32⟩ : BufTy).Contents (Elt F) → (⟨S1024x256, .f32⟩ : BufTy).Contents (Elt F) → (⟨S1024x256, .f32⟩ : BufTy).Contents (Elt F)),
    unary main_arg11 main_v127 ((transpose S256x256 [1, 0] · transposes_S256x256_S256x256_1_0) : (⟨S256x256, .f32⟩ : BufTy).Contents (Elt F) → (⟨S256x256, .f32⟩ : BufTy).Contents (Elt F)),
    binary main_v126 main_v127 main_v128 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
    unary main_arg12 main_v129 (broadcastInDim S1x256 ![1] bcast_S256_S1x256_1 : (⟨S256, .f32⟩ : BufTy).Contents (Elt F) → (⟨S1x256, .f32⟩ : BufTy).Contents (Elt F)),
    unary main_v129 main_v130 (broadcastInDim S1024x256 ![0, 1] bcast_S1x256_S1024x256_0_1 : (⟨S1x256, .f32⟩ : BufTy).Contents (Elt F) → (⟨S1024x256, .f32⟩ : BufTy).Contents (Elt F)),
    binary main_v128 main_v130 main_v131 (addf : (⟨S1024x256, .f32⟩ : BufTy).Contents (Elt F) → (⟨S1024x256, .f32⟩ : BufTy).Contents (Elt F) → (⟨S1024x256, .f32⟩ : BufTy).Contents (Elt F)),
    nullary main_cst_15 (constant S_ .f32 0x3F800054#32),
    unary main_cst_15 main_v132 (Host.sqrt : (⟨S_, .f32⟩ : BufTy).Contents (Elt F) → (⟨S_, .f32⟩ : BufTy).Contents (Elt F)),
    unary main_v132 main_v133 (id : (⟨S_, .f32⟩ : BufTy).Contents (Elt F) → (⟨S_, .f32⟩ : BufTy).Contents (Elt F)),
    unary main_v133 main_v134 (broadcastInDim S1024x256 ![] bcast_S_S1024x256 : (⟨S_, .f32⟩ : BufTy).Contents (Elt F) → (⟨S1024x256, .f32⟩ : BufTy).Contents (Elt F)),
    binary main_v131 main_v134 main_v135 (Host.divf : (⟨S1024x256, .f32⟩ : BufTy).Contents (Elt F) → (⟨S1024x256, .f32⟩ : BufTy).Contents (Elt F) → (⟨S1024x256, .f32⟩ : BufTy).Contents (Elt F)),
    unary main_arg13 main_v136 (broadcastInDim S1x256 ![1] bcast_S256_S1x256_1 : (⟨S256, .f32⟩ : BufTy).Contents (Elt F) → (⟨S1x256, .f32⟩ : BufTy).Contents (Elt F)),
    unary main_v136 main_v137 (broadcastInDim S1024x256 ![0, 1] bcast_S1x256_S1024x256_0_1 : (⟨S1x256, .f32⟩ : BufTy).Contents (Elt F) → (⟨S1024x256, .f32⟩ : BufTy).Contents (Elt F)),
    binary main_v135 main_v137 main_v138 (mulf : (⟨S1024x256, .f32⟩ : BufTy).Contents (Elt F) → (⟨S1024x256, .f32⟩ : BufTy).Contents (Elt F) → (⟨S1024x256, .f32⟩ : BufTy).Contents (Elt F)),
    unary main_arg14 main_v139 (broadcastInDim S1x256 ![1] bcast_S256_S1x256_1 : (⟨S256, .f32⟩ : BufTy).Contents (Elt F) → (⟨S1x256, .f32⟩ : BufTy).Contents (Elt F)),
    unary main_v139 main_v140 (broadcastInDim S1024x256 ![0, 1] bcast_S1x256_S1024x256_0_1 : (⟨S1x256, .f32⟩ : BufTy).Contents (Elt F) → (⟨S1024x256, .f32⟩ : BufTy).Contents (Elt F)),
    binary main_v138 main_v140 main_v141 (addf : (⟨S1024x256, .f32⟩ : BufTy).Contents (Elt F) → (⟨S1024x256, .f32⟩ : BufTy).Contents (Elt F) → (⟨S1024x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S1024x256, .f32⟩) main_call11_v0) (broadcastInDim S1024x256 ![] bcast_S_S1024x256),
    TRef.binary (TRef.of (T := ⟨S1024x256, .f32⟩) main_v141) (TRef.of (T := ⟨S1024x256, .f32⟩) main_call11_v0) (TRef.of (T := ⟨S1024x256, .f32⟩) main_v142) maximumf,
    unary main_arg15 main_v143 ((transpose S256x128 [1, 0] · transposes_S128x256_S256x128_1_0) : (⟨S128x256, .f32⟩ : BufTy).Contents (Elt F) → (⟨S256x128, .f32⟩ : BufTy).Contents (Elt F)),
    binary main_v142 main_v143 main_v144 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    unary main_arg16 main_v145 (broadcastInDim S1x128 ![1] bcast_S128_S1x128_1 : (⟨S128, .f32⟩ : BufTy).Contents (Elt F) → (⟨S1x128, .f32⟩ : BufTy).Contents (Elt F)),
    unary main_v145 main_v146 (broadcastInDim S1024x128 ![0, 1] bcast_S1x128_S1024x128_0_1 : (⟨S1x128, .f32⟩ : BufTy).Contents (Elt F) → (⟨S1024x128, .f32⟩ : BufTy).Contents (Elt F)),
    binary main_v144 main_v146 main_v147 (addf : (⟨S1024x128, .f32⟩ : BufTy).Contents (Elt F) → (⟨S1024x128, .f32⟩ : BufTy).Contents (Elt F) → (⟨S1024x128, .f32⟩ : BufTy).Contents (Elt F)),
    nullary main_cst_16 (constant S_ .f32 0x3F800054#32),
    unary main_cst_16 main_v148 (Host.sqrt : (⟨S_, .f32⟩ : BufTy).Contents (Elt F) → (⟨S_, .f32⟩ : BufTy).Contents (Elt F)),
    unary main_v148 main_v149 (id : (⟨S_, .f32⟩ : BufTy).Contents (Elt F) → (⟨S_, .f32⟩ : BufTy).Contents (Elt F)),
    unary main_v149 main_v150 (broadcastInDim S1024x128 ![] bcast_S_S1024x128 : (⟨S_, .f32⟩ : BufTy).Contents (Elt F) → (⟨S1024x128, .f32⟩ : BufTy).Contents (Elt F)),
    binary main_v147 main_v150 main_v151 (Host.divf : (⟨S1024x128, .f32⟩ : BufTy).Contents (Elt F) → (⟨S1024x128, .f32⟩ : BufTy).Contents (Elt F) → (⟨S1024x128, .f32⟩ : BufTy).Contents (Elt F)),
    unary main_arg17 main_v152 (broadcastInDim S1x128 ![1] bcast_S128_S1x128_1 : (⟨S128, .f32⟩ : BufTy).Contents (Elt F) → (⟨S1x128, .f32⟩ : BufTy).Contents (Elt F)),
    unary main_v152 main_v153 (broadcastInDim S1024x128 ![0, 1] bcast_S1x128_S1024x128_0_1 : (⟨S1x128, .f32⟩ : BufTy).Contents (Elt F) → (⟨S1024x128, .f32⟩ : BufTy).Contents (Elt F)),
    binary main_v151 main_v153 main_v154 (mulf : (⟨S1024x128, .f32⟩ : BufTy).Contents (Elt F) → (⟨S1024x128, .f32⟩ : BufTy).Contents (Elt F) → (⟨S1024x128, .f32⟩ : BufTy).Contents (Elt F)),
    unary main_arg18 main_v155 (broadcastInDim S1x128 ![1] bcast_S128_S1x128_1 : (⟨S128, .f32⟩ : BufTy).Contents (Elt F) → (⟨S1x128, .f32⟩ : BufTy).Contents (Elt F)),
    unary main_v155 main_v156 (broadcastInDim S1024x128 ![0, 1] bcast_S1x128_S1024x128_0_1 : (⟨S1x128, .f32⟩ : BufTy).Contents (Elt F) → (⟨S1024x128, .f32⟩ : BufTy).Contents (Elt F)),
    binary main_v154 main_v156 main_v157 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S1024x128, .f32⟩) main_call12_v0) (broadcastInDim S1024x128 ![] bcast_S_S1024x128),
    TRef.binary (TRef.of (T := ⟨S1024x128, .f32⟩) main_v157) (TRef.of (T := ⟨S1024x128, .f32⟩) main_call12_v0) (TRef.of (T := ⟨S1024x128, .f32⟩) main_v158) maximumf,
    unary main_arg19 main_v159 ((transpose S128x512 [1, 0] · transposes_S512x128_S128x512_1_0) : (⟨S512x128, .f32⟩ : BufTy).Contents (Elt F) → (⟨S128x512, .f32⟩ : BufTy).Contents (Elt F)),
    binary main_v158 main_v159 main_v160 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F))]

/-- Decoder, second part: the operations. -/
def w5b : List (HloOp τ sig (Elt F)) :=
  [ unary main_arg20 main_v161 (broadcastInDim S1x512 ![1] bcast_S512_S1x512_1 : (⟨S512, .f32⟩ : BufTy).Contents (Elt F) → (⟨S1x512, .f32⟩ : BufTy).Contents (Elt F)),
    unary main_v161 main_v162 (broadcastInDim S1024x512 ![0, 1] bcast_S1x512_S1024x512_0_1 : (⟨S1x512, .f32⟩ : BufTy).Contents (Elt F) → (⟨S1024x512, .f32⟩ : BufTy).Contents (Elt F)),
    binary main_v160 main_v162 main_v163 (addf : (⟨S1024x512, .f32⟩ : BufTy).Contents (Elt F) → (⟨S1024x512, .f32⟩ : BufTy).Contents (Elt F) → (⟨S1024x512, .f32⟩ : BufTy).Contents (Elt F))]

/-- The whole line of operations. -/
def ops : List (HloOp τ sig (Elt F)) :=
  (w0 ++ w1a) ++ ((w1b ++ (w2 ++ (w3 ++ w4a))) ++ ((w4b ++ w5a) ++ w5b))

set_option maxRecDepth 8192 in
set_option maxHeartbeats 4000000 in
/-- Part 0 of @main runs its stretch of the line. -/
theorem part0_eq (c : Dev nD) : main_part0 (F := F) c = seq (w0 ++ w1a) := rfl

set_option maxRecDepth 8192 in
set_option maxHeartbeats 4000000 in
/-- Part 1 of @main runs its stretch of the line. -/
theorem part1_eq (c : Dev nD) : main_part1 (F := F) c = seq (w1b ++ (w2 ++ (w3 ++ w4a))) := rfl

set_option maxRecDepth 8192 in
set_option maxHeartbeats 4000000 in
/-- Part 2 of @main runs its stretch of the line. -/
theorem part2_eq (c : Dev nD) : main_part2 (F := F) c = seq (w4b ++ w5a) := rfl

set_option maxRecDepth 8192 in
set_option maxHeartbeats 4000000 in
/-- Part 3 of @main runs its stretch of the line. -/
theorem part3_eq (c : Dev nD) : main_part3 (F := F) c = seq (w5b) := rfl

/-- @main runs the line. -/
theorem main_eq (c : Dev nD) : main (F := F) c = seq ops := by
  rw [ops, seq_append (w0 ++ w1a), seq_append (w1b ++ (w2 ++ (w3 ++ w4a))), seq_append (w4b ++ w5a), ← part0_eq c, ← part1_eq c, ← part2_eq c, ← part3_eq c]
  rfl

/-- The program scopes no buffer. -/
theorem scopedRefs_eq : (Finset.univ.filter fun b : Ref sig .tc => b.isScoped) = ∅ := by decide

/-- The program scopes no semaphore. -/
theorem scopedSems_eq : (Finset.univ.filter fun sm : SemLoc sig => sm.isScoped .tc) = ∅ := by decide

set_option maxRecDepth 8192 in
/-- Each operation of `w0` touches TensorCore buffers alone. -/
theorem w0_sub : (w0 : List (HloOp τ sig (Elt F))).Forall fun op => op.bufs ⊆ tcRefs τ sig :=
  ⟨unary_bufs_sub .., nullary_bufs_sub .., unary_bufs_sub .., ternary_bufs_sub .., unary_bufs_sub .., nullary_bufs_sub .., unary_bufs_sub .., unary_bufs_sub .., unary_bufs_sub .., ternary_bufs_sub .., unary_bufs_sub .., binary_bufs_sub .., unary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- No operation of `w0` allocates. -/
theorem w0_fresh : (w0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers `w0` writes. -/
def w0_W : List (Ref sig .tc) := [main_v0, main_c, main_v1, main_v2, main_v3, main_cst, main_call0_v0, main_call0_v1, main_call0_v2, main_v4, main_v5, main_v6, main_v7, main_v8, main_v9, main_v10, main_v11, main_cst_0, main_v12, main_v13, main_v14, main_v15, main_v16, main_v17, main_v18, main_v19, main_v20, main_v21, main_call1_cst, main_call1_v0, main_v22, main_v23, main_v24, main_v25, main_v26, main_v27, main_cst_1, main_v28, main_v29, main_v30, main_v31, main_v32, main_v33, main_v34, main_v35, main_v36, main_v37, main_call2_cst, main_call2_v0, main_v38, main_v39, main_v40, main_v41, main_v42, main_v43]

set_option maxRecDepth 8192 in
/-- `w0` writes exactly those. -/
theorem w0_writes : (w0 : List (HloOp τ sig (Elt F))).Forall fun op => op.writes ⊆ (w0_W.map (Proc.devRef (τ := τ) .tc)).toFinset :=
  forall_writes_sub_of_map rfl

/-- `w0` keeps every buffer it does not write. -/
theorem w0_keep (V : Valuation τ sig (Elt F)) (r : Ref sig .tc) (h : r ∉ w0_W) :
    after w0 V (Proc.devRef .tc r) = V (Proc.devRef .tc r) :=
  after_of_writes_sub w0 V w0_writes h

set_option maxRecDepth 8192 in
/-- Each operation of `w1a` touches TensorCore buffers alone. -/
theorem w1a_sub : (w1a : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub ..⟩

/-- No operation of `w1a` allocates. -/
theorem w1a_fresh : (w1a : List (HloOp τ sig (Elt F))).Forall fun op => op.fresh = ∅ :=
  ⟨rfl, rfl, rfl, rfl, rfl, rfl, rfl, rfl, rfl, rfl, rfl, rfl⟩

/-- The buffers `w1a` writes. -/
def w1a_W : List (Ref sig .tc) := [main_v44, main_v45, main_v46, main_cst_2, main_v47, main_v48, main_v49, main_cst_3, main_v50, main_v51, main_v52, main_v53]

set_option maxRecDepth 8192 in
/-- `w1a` writes exactly those. -/
theorem w1a_writes : (w1a : List (HloOp τ sig (Elt F))).Forall fun op => op.writes ⊆ (w1a_W.map (Proc.devRef (τ := τ) .tc)).toFinset :=
  forall_writes_sub_of_map rfl

/-- `w1a` keeps every buffer it does not write. -/
theorem w1a_keep (V : Valuation τ sig (Elt F)) (r : Ref sig .tc) (h : r ∉ w1a_W) :
    after w1a V (Proc.devRef .tc r) = V (Proc.devRef .tc r) :=
  after_of_writes_sub w1a V w1a_writes h

set_option maxRecDepth 8192 in
/-- Each operation of `w1b` touches TensorCore buffers alone. -/
theorem w1b_sub : (w1b : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-- No operation of `w1b` allocates. -/
theorem w1b_fresh : (w1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers `w1b` writes. -/
def w1b_W : List (Ref sig .tc) := [main_v54, main_v55, main_v56, main_cst_4, main_v57, main_v58, main_v59, main_call3_v0, main_call3_cst, main_call3_c, main_call3_v1_0, main_v60, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v61, main_v62]

set_option maxRecDepth 8192 in
/-- `w1b` writes exactly those. -/
theorem w1b_writes : (w1b : List (HloOp τ sig (Elt F))).Forall fun op => op.writes ⊆ (w1b_W.map (Proc.devRef (τ := τ) .tc)).toFinset :=
  forall_writes_sub_of_map rfl

/-- `w1b` keeps every buffer it does not write. -/
theorem w1b_keep (V : Valuation τ sig (Elt F)) (r : Ref sig .tc) (h : r ∉ w1b_W) :
    after w1b V (Proc.devRef .tc r) = V (Proc.devRef .tc r) :=
  after_of_writes_sub w1b V w1b_writes h

set_option maxRecDepth 8192 in
/-- Each operation of `w2` touches TensorCore buffers alone. -/
theorem w2_sub : (w2 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-- No operation of `w2` allocates. -/
theorem w2_fresh : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers `w2` writes. -/
def w2_W : List (Ref sig .tc) := [main_v63, main_v64, main_v65, main_cst_5, main_v66, main_v67, main_v68, main_cst_6, main_v69, main_v70, main_v71, main_v72, main_v73, main_v74, main_v75, main_cst_7, main_v76, main_v77, main_v78, main_call5_v0, main_call5_cst, main_call5_c, main_call5_v1_0, main_v79, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v80, main_v81]

set_option maxRecDepth 8192 in
/-- `w2` writes exactly those. -/
theorem w2_writes : (w2 : List (HloOp τ sig (Elt F))).Forall fun op => op.writes ⊆ (w2_W.map (Proc.devRef (τ := τ) .tc)).toFinset :=
  forall_writes_sub_of_map rfl

/-- `w2` keeps every buffer it does not write. -/
theorem w2_keep (V : Valuation τ sig (Elt F)) (r : Ref sig .tc) (h : r ∉ w2_W) :
    after w2 V (Proc.devRef .tc r) = V (Proc.devRef .tc r) :=
  after_of_writes_sub w2 V w2_writes h

set_option maxRecDepth 8192 in
/-- Each operation of `w3` touches TensorCore buffers alone. -/
theorem w3_sub : (w3 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-- No operation of `w3` allocates. -/
theorem w3_fresh : (w3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers `w3` writes. -/
def w3_W : List (Ref sig .tc) := [main_v82, main_v83, main_v84, main_cst_8, main_v85, main_v86, main_v87, main_cst_9, main_v88, main_v89, main_v90, main_v91, main_v92, main_v93, main_v94, main_cst_10, main_v95, main_v96, main_v97, main_call7_v0, main_call7_cst, main_call7_c, main_call7_v1_0, main_v98, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v99, main_v100]

set_option maxRecDepth 8192 in
/-- `w3` writes exactly those. -/
theorem w3_writes : (w3 : List (HloOp τ sig (Elt F))).Forall fun op => op.writes ⊆ (w3_W.map (Proc.devRef (τ := τ) .tc)).toFinset :=
  forall_writes_sub_of_map rfl

/-- `w3` keeps every buffer it does not write. -/
theorem w3_keep (V : Valuation τ sig (Elt F)) (r : Ref sig .tc) (h : r ∉ w3_W) :
    after w3 V (Proc.devRef .tc r) = V (Proc.devRef .tc r) :=
  after_of_writes_sub w3 V w3_writes h

set_option maxRecDepth 8192 in
/-- Each operation of `w4a` touches TensorCore buffers alone. -/
theorem w4a_sub : (w4a : List (HloOp τ sig (Elt F))).Forall fun op => op.bufs ⊆ tcRefs τ sig :=
  ⟨unary_bufs_sub .., reshape_bufs_sub .., binary_bufs_sub .., nullary_bufs_sub .., binary_bufs_sub .., unary_bufs_sub ..⟩

/-- No operation of `w4a` allocates. -/
theorem w4a_fresh : (w4a : List (HloOp τ sig (Elt F))).Forall fun op => op.fresh = ∅ :=
  ⟨rfl, rfl, rfl, rfl, rfl, rfl⟩

/-- The buffers `w4a` writes. -/
def w4a_W : List (Ref sig .tc) := [main_v101, main_v102, main_v103, main_cst_11, main_v104, main_v105]

set_option maxRecDepth 8192 in
/-- `w4a` writes exactly those. -/
theorem w4a_writes : (w4a : List (HloOp τ sig (Elt F))).Forall fun op => op.writes ⊆ (w4a_W.map (Proc.devRef (τ := τ) .tc)).toFinset :=
  forall_writes_sub_of_map rfl

/-- `w4a` keeps every buffer it does not write. -/
theorem w4a_keep (V : Valuation τ sig (Elt F)) (r : Ref sig .tc) (h : r ∉ w4a_W) :
    after w4a V (Proc.devRef .tc r) = V (Proc.devRef .tc r) :=
  after_of_writes_sub w4a V w4a_writes h

set_option maxRecDepth 8192 in
/-- Each operation of `w4b` touches TensorCore buffers alone. -/
theorem w4b_sub : (w4b : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- No operation of `w4b` allocates. -/
theorem w4b_fresh : (w4b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers `w4b` writes. -/
def w4b_W : List (Ref sig .tc) := [main_v106, main_cst_12, main_v107, main_v108, main_v109, main_v110, main_v111, main_v112, main_v113, main_cst_13, main_v114, main_v115, main_v116, main_call9_v0, main_call9_cst, main_call9_c, main_call9_v1_0, main_v117, main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v118]

set_option maxRecDepth 8192 in
/-- `w4b` writes exactly those. -/
theorem w4b_writes : (w4b : List (HloOp τ sig (Elt F))).Forall fun op => op.writes ⊆ (w4b_W.map (Proc.devRef (τ := τ) .tc)).toFinset :=
  forall_writes_sub_of_map rfl

/-- `w4b` keeps every buffer it does not write. -/
theorem w4b_keep (V : Valuation τ sig (Elt F)) (r : Ref sig .tc) (h : r ∉ w4b_W) :
    after w4b V (Proc.devRef .tc r) = V (Proc.devRef .tc r) :=
  after_of_writes_sub w4b V w4b_writes h

set_option maxRecDepth 8192 in
/-- Each operation of `w5a` touches TensorCore buffers alone. -/
theorem w5a_sub : (w5a : List (HloOp τ sig (Elt F))).Forall fun op => op.bufs ⊆ tcRefs τ sig :=
  ⟨unary_bufs_sub .., unary_bufs_sub .., unary_bufs_sub .., unary_bufs_sub .., nary_bufs_sub .., nullary_bufs_sub .., binary_bufs_sub .., binary_bufs_sub .., binary_bufs_sub .., unary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub ..⟩

/-- No operation of `w5a` allocates. -/
theorem w5a_fresh : (w5a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers `w5a` writes. -/
def w5a_W : List (Ref sig .tc) := [main_v119, main_v120, main_v121, main_v122, main_v123, main_cst_14, main_v124, main_v125, main_v126, main_v127, main_v128, main_v129, main_v130, main_v131, main_cst_15, main_v132, main_v133, main_v134, main_v135, main_v136, main_v137, main_v138, main_v139, main_v140, main_v141, main_call11_cst, main_call11_v0, main_v142, main_v143, main_v144, main_v145, main_v146, main_v147, main_cst_16, main_v148, main_v149, main_v150, main_v151, main_v152, main_v153, main_v154, main_v155, main_v156, main_v157, main_call12_cst, main_call12_v0, main_v158, main_v159, main_v160]

set_option maxRecDepth 8192 in
/-- `w5a` writes exactly those. -/
theorem w5a_writes : (w5a : List (HloOp τ sig (Elt F))).Forall fun op => op.writes ⊆ (w5a_W.map (Proc.devRef (τ := τ) .tc)).toFinset :=
  forall_writes_sub_of_map rfl

/-- `w5a` keeps every buffer it does not write. -/
theorem w5a_keep (V : Valuation τ sig (Elt F)) (r : Ref sig .tc) (h : r ∉ w5a_W) :
    after w5a V (Proc.devRef .tc r) = V (Proc.devRef .tc r) :=
  after_of_writes_sub w5a V w5a_writes h

set_option maxRecDepth 8192 in
/-- Each operation of `w5b` touches TensorCore buffers alone. -/
theorem w5b_sub : (w5b : List (HloOp τ sig (Elt F))).Forall fun op => op.bufs ⊆ tcRefs τ sig :=
  ⟨unary_bufs_sub .., unary_bufs_sub .., binary_bufs_sub ..⟩

/-- No operation of `w5b` allocates. -/
theorem w5b_fresh : (w5b : List (HloOp τ sig (Elt F))).Forall fun op => op.fresh = ∅ :=
  ⟨rfl, rfl, rfl⟩

/-- The buffers `w5b` writes. -/
def w5b_W : List (Ref sig .tc) := [main_v161, main_v162, main_v163]

set_option maxRecDepth 8192 in
/-- `w5b` writes exactly those. -/
theorem w5b_writes : (w5b : List (HloOp τ sig (Elt F))).Forall fun op => op.writes ⊆ (w5b_W.map (Proc.devRef (τ := τ) .tc)).toFinset :=
  forall_writes_sub_of_map rfl

/-- `w5b` keeps every buffer it does not write. -/
theorem w5b_keep (V : Valuation τ sig (Elt F)) (r : Ref sig .tc) (h : r ∉ w5b_W) :
    after w5b V (Proc.devRef .tc r) = V (Proc.devRef .tc r) :=
  after_of_writes_sub w5b V w5b_writes h

theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h
    exacts [List.forall_iff_forall_mem.mp w0_sub op h, List.forall_iff_forall_mem.mp w1a_sub op h, List.forall_iff_forall_mem.mp w1b_sub op h, List.forall_iff_forall_mem.mp w2_sub op h, List.forall_iff_forall_mem.mp w3_sub op h, List.forall_iff_forall_mem.mp w4a_sub op h, List.forall_iff_forall_mem.mp w4b_sub op h, List.forall_iff_forall_mem.mp w5a_sub op h, List.forall_iff_forall_mem.mp w5b_sub op h]

theorem ops_fresh : ∀ op ∈ (ops : List (HloOp τ sig (Elt F))), op.fresh = ∅ := fun op h => by
    simp only [ops, List.mem_append, or_assoc] at h
    rcases h with h | h | h | h | h | h | h | h | h
    exacts [List.forall_iff_forall_mem.mp w0_fresh op h, List.forall_iff_forall_mem.mp w1a_fresh op h, List.forall_iff_forall_mem.mp w1b_fresh op h, List.forall_iff_forall_mem.mp w2_fresh op h, List.forall_iff_forall_mem.mp w3_fresh op h, List.forall_iff_forall_mem.mp w4a_fresh op h, List.forall_iff_forall_mem.mp w4b_fresh op h, List.forall_iff_forall_mem.mp w5a_fresh op h, List.forall_iff_forall_mem.mp w5b_fresh op h]

set_option maxRecDepth 8192 in
set_option maxHeartbeats 4000000 in
/-- The encoder ends with the encoding. -/
theorem enc_val (V : Valuation τ sig (Elt F)) :
    after w0 V (Proc.devRef .tc main_v43)
      = Whole.encode (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg22)) (V (Proc.devRef .tc main_arg23)) := by
  simp only [w0, TRef.binary, TRef.nullary, TRef.ternary, TRef.unary, TRef.quaternary, TRef.toBuf, TRef.ofBuf, cast_eq]
  after_results_simp
  rfl

set_option maxRecDepth 8192 in
set_option maxHeartbeats 4000000 in
/-- Level 1 finds the nearest rows of its codebook. -/
theorem near1_val (V : Valuation τ sig (Elt F)) :
    after w1b (after w1a V) (Proc.devRef .tc main_v61)
      = Whole.nearest (V (Proc.devRef .tc main_v43)) (Whole.book0 (V (Proc.devRef .tc main_arg21))) := by
  simp only [w1a, w1b, TRef.binary, TRef.nullary, TRef.ternary, TRef.unary, TRef.quaternary, TRef.toBuf, TRef.ofBuf, cast_eq]
  after_results_simp
  rfl

set_option maxRecDepth 8192 in
set_option maxHeartbeats 4000000 in
/-- Level 1 leaves the difference. -/
theorem rest1_val (V : Valuation τ sig (Elt F)) :
    after w1b (after w1a V) (Proc.devRef .tc main_v62)
      = subf (V (Proc.devRef .tc main_v43)) (Whole.nearest (V (Proc.devRef .tc main_v43)) (Whole.book0 (V (Proc.devRef .tc main_arg21)))) := by
  simp only [w1a, w1b, TRef.binary, TRef.nullary, TRef.ternary, TRef.unary, TRef.quaternary, TRef.toBuf, TRef.ofBuf, cast_eq]
  after_results_simp
  rfl

set_option maxRecDepth 8192 in
set_option maxHeartbeats 4000000 in
/-- Level 2 finds the nearest rows of its codebook. -/
theorem near2_val (V : Valuation τ sig (Elt F)) :
    after w2 V (Proc.devRef .tc main_v80)
      = Whole.nearest (V (Proc.devRef .tc main_v62)) (Whole.book1 (V (Proc.devRef .tc main_arg21))) := by
  simp only [w2, TRef.binary, TRef.nullary, TRef.ternary, TRef.unary, TRef.quaternary, TRef.toBuf, TRef.ofBuf, cast_eq]
  after_results_simp
  rfl

set_option maxRecDepth 8192 in
set_option maxHeartbeats 4000000 in
/-- Level 2 leaves the difference. -/
theorem rest2_val (V : Valuation τ sig (Elt F)) :
    after w2 V (Proc.devRef .tc main_v81)
      = subf (V (Proc.devRef .tc main_v62)) (Whole.nearest (V (Proc.devRef .tc main_v62)) (Whole.book1 (V (Proc.devRef .tc main_arg21)))) := by
  simp only [w2, TRef.binary, TRef.nullary, TRef.ternary, TRef.unary, TRef.quaternary, TRef.toBuf, TRef.ofBuf, cast_eq]
  after_results_simp
  rfl

set_option maxRecDepth 8192 in
set_option maxHeartbeats 4000000 in
/-- Level 3 finds the nearest rows of its codebook. -/
theorem near3_val (V : Valuation τ sig (Elt F)) :
    after w3 V (Proc.devRef .tc main_v99)
      = Whole.nearest (V (Proc.devRef .tc main_v81)) (Whole.book2 (V (Proc.devRef .tc main_arg21))) := by
  simp only [w3, TRef.binary, TRef.nullary, TRef.ternary, TRef.unary, TRef.quaternary, TRef.toBuf, TRef.ofBuf, cast_eq]
  after_results_simp
  rfl

set_option maxRecDepth 8192 in
set_option maxHeartbeats 4000000 in
/-- Level 3 leaves the difference. -/
theorem rest3_val (V : Valuation τ sig (Elt F)) :
    after w3 V (Proc.devRef .tc main_v100)
      = subf (V (Proc.devRef .tc main_v81)) (Whole.nearest (V (Proc.devRef .tc main_v81)) (Whole.book2 (V (Proc.devRef .tc main_arg21)))) := by
  simp only [w3, TRef.binary, TRef.nullary, TRef.ternary, TRef.unary, TRef.quaternary, TRef.toBuf, TRef.ofBuf, cast_eq]
  after_results_simp
  rfl

set_option maxRecDepth 8192 in
set_option maxHeartbeats 4000000 in
/-- Level 4 finds the nearest rows of its codebook. -/
theorem near4_val (V : Valuation τ sig (Elt F)) :
    after w4b (after w4a V) (Proc.devRef .tc main_v118)
      = Whole.nearest (V (Proc.devRef .tc main_v100)) (Whole.book3 (V (Proc.devRef .tc main_arg21))) := by
  simp only [w4a, w4b, TRef.binary, TRef.nullary, TRef.ternary, TRef.unary, TRef.quaternary, TRef.toBuf, TRef.ofBuf, cast_eq]
  after_results_simp
  rfl

set_option maxRecDepth 8192 in
set_option maxHeartbeats 4000000 in
/-- The decoder ends with the reconstruction. -/
theorem dec_val (V : Valuation τ sig (Elt F)) :
    after w5b (after w5a V) (Proc.devRef .tc main_v163)
      = Whole.decode (Whole.decodeIn (V (Proc.devRef .tc main_v43)) (V (Proc.devRef .tc main_v61)) (V (Proc.devRef .tc main_v80)) (V (Proc.devRef .tc main_v99)) (V (Proc.devRef .tc main_v118))) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  simp only [w5a, w5b, TRef.binary, TRef.nullary, TRef.ternary, TRef.unary, TRef.quaternary, TRef.toBuf, TRef.ofBuf, cast_eq]
  after_results_simp
  rfl

/-- The arguments as a valuation holds them. -/
def args (V : Valuation τ sig (Elt F)) : Whole.Args F where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)
  a19 := V (Proc.devRef .tc main_arg19)
  a20 := V (Proc.devRef .tc main_arg20)
  a21 := V (Proc.devRef .tc main_arg21)
  a22 := V (Proc.devRef .tc main_arg22)
  a23 := V (Proc.devRef .tc main_arg23)

/-- The whole line, stage after stage. -/
theorem after_ops (V : Valuation τ sig (Elt F)) :
    after ops V = after w5b (after w5a (after w4b (after w4a (after w3 (after w2 (after w1b (after w1a (after w0 V)))))))) := by
  simp only [ops, after_append]

/-- A buffer that level 1 does not write survives it. -/
theorem keep1 (V : Valuation τ sig (Elt F)) (r : Ref sig .tc) (ha : r ∉ w1a_W) (hb : r ∉ w1b_W) :
    after w1b (after w1a V) (Proc.devRef .tc r) = V (Proc.devRef .tc r) := (w1b_keep _ r hb).trans (w1a_keep _ r ha)

/-- A buffer that level 4 does not write survives it. -/
theorem keep4 (V : Valuation τ sig (Elt F)) (r : Ref sig .tc) (ha : r ∉ w4a_W) (hb : r ∉ w4b_W) :
    after w4b (after w4a V) (Proc.devRef .tc r) = V (Proc.devRef .tc r) := (w4b_keep _ r hb).trans (w4a_keep _ r ha)

/-- A buffer that the decoder does not write survives it. -/
theorem keep5 (V : Valuation τ sig (Elt F)) (r : Ref sig .tc) (ha : r ∉ w5a_W) (hb : r ∉ w5b_W) :
    after w5b (after w5a V) (Proc.devRef .tc r) = V (Proc.devRef .tc r) := (w5b_keep _ r hb).trans (w5a_keep _ r ha)

/-- A buffer that no stage writes ends as it began. -/
theorem keep_all (V : Valuation τ sig (Elt F)) (r : Ref sig .tc) (h0 : r ∉ w0_W) (h1a : r ∉ w1a_W) (h1b : r ∉ w1b_W) (h2 : r ∉ w2_W)
    (h3 : r ∉ w3_W) (h4a : r ∉ w4a_W) (h4b : r ∉ w4b_W) (h5a : r ∉ w5a_W) (h5b : r ∉ w5b_W) :
    after ops V (Proc.devRef .tc r) = V (Proc.devRef .tc r) := by
  rw [after_ops, keep5 _ r h5a h5b, keep4 _ r h4a h4b, w3_keep _ r h3, w2_keep _ r h2, keep1 _ r h1a h1b, w0_keep _ r h0]

/-- Level 1's rows, from the arguments. -/
theorem pick0_at (V : Valuation τ sig (Elt F)) :
    after w1b (after w1a (after w0 V)) (Proc.devRef .tc main_v61) = Whole.pick0 (args V) := by
  rw [near1_val, enc_val, w0_keep _ main_arg21 (by decide)]; rfl

/-- Level 1's residual, from the arguments. -/
theorem rest1_at (V : Valuation τ sig (Elt F)) :
    after w1b (after w1a (after w0 V)) (Proc.devRef .tc main_v62) = Whole.rest1 (args V) := by
  rw [rest1_val, enc_val, w0_keep _ main_arg21 (by decide)]; rfl

/-- Level 2's rows, from the arguments. -/
theorem pick1_at (V : Valuation τ sig (Elt F)) :
    after w2 (after w1b (after w1a (after w0 V))) (Proc.devRef .tc main_v80) = Whole.pick1 (args V) := by
  rw [near2_val, rest1_at, keep1 _ main_arg21 (by decide) (by decide), w0_keep _ main_arg21 (by decide)]; rfl

/-- Level 2's residual, from the arguments. -/
theorem rest2_at (V : Valuation τ sig (Elt F)) :
    after w2 (after w1b (after w1a (after w0 V))) (Proc.devRef .tc main_v81) = Whole.rest2 (args V) := by
  rw [rest2_val, rest1_at, keep1 _ main_arg21 (by decide) (by decide), w0_keep _ main_arg21 (by decide)]; rfl

/-- Level 3's rows, from the arguments. -/
theorem pick2_at (V : Valuation τ sig (Elt F)) :
    after w3 (after w2 (after w1b (after w1a (after w0 V)))) (Proc.devRef .tc main_v99) = Whole.pick2 (args V) := by
  rw [near3_val, rest2_at, w2_keep _ main_arg21 (by decide), keep1 _ main_arg21 (by decide) (by decide), w0_keep _ main_arg21 (by decide)]; rfl

/-- Level 3's residual, from the arguments. -/
theorem rest3_at (V : Valuation τ sig (Elt F)) :
    after w3 (after w2 (after w1b (after w1a (after w0 V)))) (Proc.devRef .tc main_v100) = Whole.rest3 (args V) := by
  rw [rest3_val, rest2_at, w2_keep _ main_arg21 (by decide), keep1 _ main_arg21 (by decide) (by decide), w0_keep _ main_arg21 (by decide)]; rfl

/-- Level 4's rows, from the arguments. -/
theorem pick3_at (V : Valuation τ sig (Elt F)) :
    after w4b (after w4a (after w3 (after w2 (after w1b (after w1a (after w0 V)))))) (Proc.devRef .tc main_v118) = Whole.pick3 (args V) := by
  rw [near4_val, rest3_at, w3_keep _ main_arg21 (by decide), w2_keep _ main_arg21 (by decide), keep1 _ main_arg21 (by decide) (by decide),
    w0_keep _ main_arg21 (by decide)]; rfl

/-- The encoding at the end. -/
theorem enc_end (V : Valuation τ sig (Elt F)) : after ops V (Proc.devRef .tc main_v43) = Whole.enc (args V) := by
  rw [after_ops, keep5 _ main_v43 (by decide) (by decide), keep4 _ main_v43 (by decide) (by decide), w3_keep _ main_v43 (by decide),
    w2_keep _ main_v43 (by decide), keep1 _ main_v43 (by decide) (by decide), enc_val]; rfl

/-- Level 1's rows at the end. -/
theorem pick0_end (V : Valuation τ sig (Elt F)) : after ops V (Proc.devRef .tc main_v61) = Whole.pick0 (args V) := by
  rw [after_ops, keep5 _ main_v61 (by decide) (by decide), keep4 _ main_v61 (by decide) (by decide), w3_keep _ main_v61 (by decide),
    w2_keep _ main_v61 (by decide), pick0_at]

/-- Level 1's residual at the end. -/
theorem rest1_end (V : Valuation τ sig (Elt F)) : after ops V (Proc.devRef .tc main_v62) = Whole.rest1 (args V) := by
  rw [after_ops, keep5 _ main_v62 (by decide) (by decide), keep4 _ main_v62 (by decide) (by decide), w3_keep _ main_v62 (by decide),
    w2_keep _ main_v62 (by decide), rest1_at]

/-- Level 2's rows at the end. -/
theorem pick1_end (V : Valuation τ sig (Elt F)) : after ops V (Proc.devRef .tc main_v80) = Whole.pick1 (args V) := by
  rw [after_ops, keep5 _ main_v80 (by decide) (by decide), keep4 _ main_v80 (by decide) (by decide), w3_keep _ main_v80 (by decide), pick1_at]

/-- Level 2's residual at the end. -/
theorem rest2_end (V : Valuation τ sig (Elt F)) : after ops V (Proc.devRef .tc main_v81) = Whole.rest2 (args V) := by
  rw [after_ops, keep5 _ main_v81 (by decide) (by decide), keep4 _ main_v81 (by decide) (by decide), w3_keep _ main_v81 (by decide), rest2_at]

/-- Level 3's rows at the end. -/
theorem pick2_end (V : Valuation τ sig (Elt F)) : after ops V (Proc.devRef .tc main_v99) = Whole.pick2 (args V) := by
  rw [after_ops, keep5 _ main_v99 (by decide) (by decide), keep4 _ main_v99 (by decide) (by decide), pick2_at]

/-- Level 3's residual at the end. -/
theorem rest3_end (V : Valuation τ sig (Elt F)) : after ops V (Proc.devRef .tc main_v100) = Whole.rest3 (args V) := by
  rw [after_ops, keep5 _ main_v100 (by decide) (by decide), keep4 _ main_v100 (by decide) (by decide), rest3_at]

/-- Level 4's rows at the end. -/
theorem pick3_end (V : Valuation τ sig (Elt F)) : after ops V (Proc.devRef .tc main_v118) = Whole.pick3 (args V) := by
  rw [after_ops, keep5 _ main_v118 (by decide) (by decide), pick3_at]

/-- An argument the decoder reads is the launch's. -/
theorem arg_at4 (V : Valuation τ sig (Elt F)) (r : Ref sig .tc) (h0 : r ∉ w0_W) (h1a : r ∉ w1a_W) (h1b : r ∉ w1b_W) (h2 : r ∉ w2_W)
    (h3 : r ∉ w3_W) (h4a : r ∉ w4a_W) (h4b : r ∉ w4b_W) :
    after w4b (after w4a (after w3 (after w2 (after w1b (after w1a (after w0 V)))))) (Proc.devRef .tc r) = V (Proc.devRef .tc r) := by
  rw [keep4 _ r h4a h4b, w3_keep _ r h3, w2_keep _ r h2, keep1 _ r h1a h1b, w0_keep _ r h0]

/-- The reconstruction at the end. -/
theorem recon_end (V : Valuation τ sig (Elt F)) : after ops V (Proc.devRef .tc main_v163) = Whole.recon (args V) := by
  rw [after_ops, dec_val, pick3_at,
    keep4 _ main_v43 (by decide) (by decide), w3_keep _ main_v43 (by decide), w2_keep _ main_v43 (by decide), keep1 _ main_v43 (by decide) (by decide), enc_val,
    keep4 _ main_v61 (by decide) (by decide), w3_keep _ main_v61 (by decide), w2_keep _ main_v61 (by decide), pick0_at,
    keep4 _ main_v80 (by decide) (by decide), w3_keep _ main_v80 (by decide), pick1_at,
    keep4 _ main_v99 (by decide) (by decide), pick2_at]
  rw [arg_at4 V main_arg11 (by decide) (by decide) (by decide) (by decide) (by decide) (by decide) (by decide)]
  rw [arg_at4 V main_arg12 (by decide) (by decide) (by decide) (by decide) (by decide) (by decide) (by decide)]
  rw [arg_at4 V main_arg13 (by decide) (by decide) (by decide) (by decide) (by decide) (by decide) (by decide)]
  rw [arg_at4 V main_arg14 (by decide) (by decide) (by decide) (by decide) (by decide) (by decide) (by decide)]
  rw [arg_at4 V main_arg15 (by decide) (by decide) (by decide) (by decide) (by decide) (by decide) (by decide)]
  rw [arg_at4 V main_arg16 (by decide) (by decide) (by decide) (by decide) (by decide) (by decide) (by decide)]
  rw [arg_at4 V main_arg17 (by decide) (by decide) (by decide) (by decide) (by decide) (by decide) (by decide)]
  rw [arg_at4 V main_arg18 (by decide) (by decide) (by decide) (by decide) (by decide) (by decide) (by decide)]
  rw [arg_at4 V main_arg19 (by decide) (by decide) (by decide) (by decide) (by decide) (by decide) (by decide)]
  rw [arg_at4 V main_arg20 (by decide) (by decide) (by decide) (by decide) (by decide) (by decide) (by decide)]
  rfl

/-- The launch's arguments on a device. -/
abbrev launchArgs (m : (ℓ : Loc nD τ sig) → Buf (Elt F) ℓ) (c : Dev nD) : Whole.Args F := args (launchContents m c)

set_option maxRecDepth 8192 in
/-- On every device, from any memory with zero counters: every weakly fair execution of @main terminates with the nine
    results at their functions of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v163) = Whole.recon (launchArgs m c)
      ∧ r.2.mem ((c.tc : Thread nD τ).loc main_v43) = Whole.enc (launchArgs m c)
      ∧ r.2.mem ((c.tc : Thread nD τ).loc main_v62) = Whole.rest1 (launchArgs m c)
      ∧ r.2.mem ((c.tc : Thread nD τ).loc main_v81) = Whole.rest2 (launchArgs m c)
      ∧ r.2.mem ((c.tc : Thread nD τ).loc main_v100) = Whole.rest3 (launchArgs m c)
      ∧ r.2.mem ((c.tc : Thread nD τ).loc main_v61) = Whole.pick0 (launchArgs m c)
      ∧ r.2.mem ((c.tc : Thread nD τ).loc main_v80) = Whole.pick1 (launchArgs m c)
      ∧ r.2.mem ((c.tc : Thread nD τ).loc main_v99) = Whole.pick2 (launchArgs m c)
      ∧ r.2.mem ((c.tc : Thread nD τ).loc main_v118) = Whole.pick3 (launchArgs m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨⟨(h c main_v163).trans (recon_end (launchContents m c)),
      (h c main_v43).trans (enc_end (launchContents m c)),
      (h c main_v62).trans (rest1_end (launchContents m c)),
      (h c main_v81).trans (rest2_end (launchContents m c)),
      (h c main_v100).trans (rest3_end (launchContents m c)),
      (h c main_v61).trans (pick0_end (launchContents m c)),
      (h c main_v80).trans (pick1_end (launchContents m c)),
      (h c main_v99).trans (pick2_end (launchContents m c)),
      (h c main_v118).trans (pick3_end (launchContents m c))⟩,
      ⟨(h c main_arg0).trans (keep_all (launchContents m c) main_arg0 (by decide) (by decide) (by decide) (by decide) (by decide) (by decide) (by decide) (by decide) (by decide)),
      (h c main_arg1).trans (keep_all (launchContents m c) main_arg1 (by decide) (by decide) (by decide) (by decide) (by decide) (by decide) (by decide) (by decide) (by decide)),
      (h c main_arg2).trans (keep_all (launchContents m c) main_arg2 (by decide) (by decide) (by decide) (by decide) (by decide) (by decide) (by decide) (by decide) (by decide)),
      (h c main_arg3).trans (keep_all (launchContents m c) main_arg3 (by decide) (by decide) (by decide) (by decide) (by decide) (by decide) (by decide) (by decide) (by decide)),
      (h c main_arg4).trans (keep_all (launchContents m c) main_arg4 (by decide) (by decide) (by decide) (by decide) (by decide) (by decide) (by decide) (by decide) (by decide)),
      (h c main_arg5).trans (keep_all (launchContents m c) main_arg5 (by decide) (by decide) (by decide) (by decide) (by decide) (by decide) (by decide) (by decide) (by decide)),
      (h c main_arg6).trans (keep_all (launchContents m c) main_arg6 (by decide) (by decide) (by decide) (by decide) (by decide) (by decide) (by decide) (by decide) (by decide)),
      (h c main_arg7).trans (keep_all (launchContents m c) main_arg7 (by decide) (by decide) (by decide) (by decide) (by decide) (by decide) (by decide) (by decide) (by decide)),
      (h c main_arg8).trans (keep_all (launchContents m c) main_arg8 (by decide) (by decide) (by decide) (by decide) (by decide) (by decide) (by decide) (by decide) (by decide)),
      (h c main_arg9).trans (keep_all (launchContents m c) main_arg9 (by decide) (by decide) (by decide) (by decide) (by decide) (by decide) (by decide) (by decide) (by decide)),
      (h c main_arg10).trans (keep_all (launchContents m c) main_arg10 (by decide) (by decide) (by decide) (by decide) (by decide) (by decide) (by decide) (by decide) (by decide)),
      (h c main_arg11).trans (keep_all (launchContents m c) main_arg11 (by decide) (by decide) (by decide) (by decide) (by decide) (by decide) (by decide) (by decide) (by decide)),
      (h c main_arg12).trans (keep_all (launchContents m c) main_arg12 (by decide) (by decide) (by decide) (by decide) (by decide) (by decide) (by decide) (by decide) (by decide)),
      (h c main_arg13).trans (keep_all (launchContents m c) main_arg13 (by decide) (by decide) (by decide) (by decide) (by decide) (by decide) (by decide) (by decide) (by decide)),
      (h c main_arg14).trans (keep_all (launchContents m c) main_arg14 (by decide) (by decide) (by decide) (by decide) (by decide) (by decide) (by decide) (by decide) (by decide)),
      (h c main_arg15).trans (keep_all (launchContents m c) main_arg15 (by decide) (by decide) (by decide) (by decide) (by decide) (by decide) (by decide) (by decide) (by decide)),
      (h c main_arg16).trans (keep_all (launchContents m c) main_arg16 (by decide) (by decide) (by decide) (by decide) (by decide) (by decide) (by decide) (by decide) (by decide)),
      (h c main_arg17).trans (keep_all (launchContents m c) main_arg17 (by decide) (by decide) (by decide) (by decide) (by decide) (by decide) (by decide) (by decide) (by decide)),
      (h c main_arg18).trans (keep_all (launchContents m c) main_arg18 (by decide) (by decide) (by decide) (by decide) (by decide) (by decide) (by decide) (by decide) (by decide)),
      (h c main_arg19).trans (keep_all (launchContents m c) main_arg19 (by decide) (by decide) (by decide) (by decide) (by decide) (by decide) (by decide) (by decide) (by decide)),
      (h c main_arg20).trans (keep_all (launchContents m c) main_arg20 (by decide) (by decide) (by decide) (by decide) (by decide) (by decide) (by decide) (by decide) (by decide)),
      (h c main_arg21).trans (keep_all (launchContents m c) main_arg21 (by decide) (by decide) (by decide) (by decide) (by decide) (by decide) (by decide) (by decide) (by decide)),
      (h c main_arg22).trans (keep_all (launchContents m c) main_arg22 (by decide) (by decide) (by decide) (by decide) (by decide) (by decide) (by decide) (by decide) (by decide)),
      (h c main_arg23).trans (keep_all (launchContents m c) main_arg23 (by decide) (by decide) (by decide) (by decide) (by decide) (by decide) (by decide) (by decide) (by decide))⟩⟩)
    (run_seq scopedRefs_eq scopedSems_eq defs main (fun _ => ops) main_eq (fun _ => ops_sub) m ρ fun _ => ops_fresh)

end Cert.ReferenceIdeal.Run

end
-- ==== Proof.Finite.lean ====
/- The precondition on the codebooks, read: every entry is a real number. -/
module

public import proofs.«01_k».proof.Pre_codebooks_finite
public import proofs.«01_k».proof.Proof.Quant
public import Idealize.ShloMosaic.Lib.ReduceAll

@[expose] public section

noncomputable section

namespace Cert.Pre_codebooks_finite

open Idealize.ShloMosaic

/-- The side conditions of the precondition's operations. -/
theorem facts : Facts where
  bcast_S_S4x1024x256 := by decide
  reducesTo_S4x1024x256_S_d0_1_2 := by decide
  h_S_ := by decide

/-- An extended real of absolute value less than the top is real. -/
theorem real_of_abs_lt (x : EReal) (h : max x (-x) < ⊤) : ∃ r : ℝ, x = (r : EReal) := by
  induction x using EReal.rec with
  | bot => simp at h
  | top => simp at h
  | coe r => exact ⟨r, rfl⟩

variable [Facts]

/-- The scalar has one index. -/
instance : Subsingleton S_.Idx := ⟨fun a b => funext fun k => k.elim0⟩

/-- Codebooks the precondition accepts have real entries. -/
theorem finite_of_fn (a0 : FVec Ideal S1024x512 .f32) (a1 : FVec Ideal S128x512 .f32) (a2 : FVec Ideal S128 .f32) (a3 : FVec Ideal S128 .f32) (a4 : FVec Ideal S128 .f32) (a5 : FVec Ideal S256x128 .f32) (a6 : FVec Ideal S256 .f32) (a7 : FVec Ideal S256 .f32) (a8 : FVec Ideal S256 .f32) (a9 : FVec Ideal S256x256 .f32) (a10 : FVec Ideal S256 .f32) (a11 : FVec Ideal S256x256 .f32) (a12 : FVec Ideal S256 .f32) (a13 : FVec Ideal S256 .f32) (a14 : FVec Ideal S256 .f32) (a15 : FVec Ideal S128x256 .f32) (a16 : FVec Ideal S128 .f32) (a17 : FVec Ideal S128 .f32) (a18 : FVec Ideal S128 .f32) (a19 : FVec Ideal S512x128 .f32) (a20 : FVec Ideal S512 .f32) (a21 : FVec Ideal S4x1024x256 .f32) (a22 : FVec Ideal S1x512 .f32) (a23 : IVec S512 1)
    (h : fn (F := Ideal) a0 a1 a2 a3 a4 a5 a6 a7 a8 a9 a10 a11 a12 a13 a14 a15 a16 a17 a18 a19 a20 a21 a22 a23 = fun _ => 1#1) : Cert.Blocks.AllFinite a21 := by
  intro j
  have e := congrFun h (fun k => k.elim0)
  dsimp only [fn] at e
  have e1 := Host.reduce_andi_all _ _ _ _ _ e j
  pointwise at e1
  have top : Ideal.ofBits FTy.f32 0x7F800000#32 = ⊤ := by simp [Ideal.ofBits, Ideal.ieee]
  rw [top] at e1
  refine real_of_abs_lt (a21 j) (of_decide_eq_true ?_)
  by_contra hne
  rw [Bool.not_eq_true] at hne
  exact absurd (e1.symm.trans (congrArg BitVec.ofBool hne)) (by decide)

end Cert.Pre_codebooks_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Results
public import proofs.«01_k».proof.Proof.RefRun
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The side conditions of the precondition. -/
instance : Cert.Pre_codebooks_finite.Facts := Cert.Pre_codebooks_finite.facts

/-- The kernel ends, its arguments unchanged and its semaphores at zero. -/
theorem frame_kernel : Cert.quiescent_Kernel := fun m ρ _ => Cert.Kernel.Whole.frame m ρ

/-- The ideal kernel ends, its arguments unchanged and its semaphores at zero. -/
theorem frame_ideal : Cert.quiescent_KernelIdeal := fun m ρ _ =>
  θ_run_and (Cert.KernelIdeal.Val.unchanged m ρ)
    ((θ_run Cert.KernelIdeal.defs _ _).mono (fun _ h => h.2) (Cert.KernelIdeal.Val.run_all m ρ))

/-- So it does at the codebooks of the algebraic claim. -/
theorem frame_ideal_pre : Cert.quiescent_KernelIdeal_pre_codebooks_finite := fun m ρ _ => frame_ideal m ρ trivial

/-- The reference ends, its arguments unchanged; it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Run.run (F := Ideal) m ρ)

/-- So it does at the codebooks of the algebraic claim. -/
theorem frame_reference_pre : Cert.quiescent_ReferenceIdeal_pre_codebooks_finite := fun m ρ _ => frame_reference m ρ trivial

/-- Where the kernel clears the low half of an entry's word, the ideal kernel narrows to bfloat16 and widens again. -/
theorem kept : Cert.preserves_Kernel_KernelIdeal := IdealRules.bf16_pack.statement _

/-- The precondition says the codebooks' entries are real. -/
theorem finite (m : (ℓ : Loc Cert.KernelIdeal.nD Cert.KernelIdeal.τ Cert.KernelIdeal.sig) → Buf (Elt Ideal) ℓ)
    (h : Cert.Pre_KernelIdeal_codebooks_finite m) (c : Dev Cert.KernelIdeal.nD) :
    Cert.Blocks.AllFinite (Cert.KernelIdeal.Val.launchArgs m c).a21 :=
  Cert.Pre_codebooks_finite.finite_of_fn _ _ _ _ _ _ _ _ _ _ _ _ _ _ _ _ _ _ _ _ _ _ _ _ (h c)

/-- Launched with equal arguments, the two programs read the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    : Cert.ReferenceIdeal.Run.launchArgs m' c = Cert.KernelIdeal.Val.launchArgs m c := by
  show (⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15), m' ((c.tc : Thread Cert.ReferenceIdeal.nD Cert.ReferenceIdeal.τ).loc Cert.ReferenceIdeal.main_arg16), m' ((c.tc : Thread Cert.ReferenceIdeal.nD Cert.ReferenceIdeal.τ).loc Cert.ReferenceIdeal.main_arg17), m' ((c.tc : Thread Cert.ReferenceIdeal.nD Cert.ReferenceIdeal.τ).loc Cert.ReferenceIdeal.main_arg18), m' ((c.tc : Thread Cert.ReferenceIdeal.nD Cert.ReferenceIdeal.τ).loc Cert.ReferenceIdeal.main_arg19), m' ((c.tc : Thread Cert.ReferenceIdeal.nD Cert.ReferenceIdeal.τ).loc Cert.ReferenceIdeal.main_arg20), m' ((c.tc : Thread Cert.ReferenceIdeal.nD Cert.ReferenceIdeal.τ).loc Cert.ReferenceIdeal.main_arg21), m' ((c.tc : Thread Cert.ReferenceIdeal.nD Cert.ReferenceIdeal.τ).loc Cert.ReferenceIdeal.main_arg22), m' ((c.tc : Thread Cert.ReferenceIdeal.nD Cert.ReferenceIdeal.τ).loc Cert.ReferenceIdeal.main_arg23)⟩ : Cert.ReferenceIdeal.Whole.Args Ideal)
    = ⟨m ((c.tc : Thread Cert.KernelIdeal.nD Cert.KernelIdeal.τ).loc Cert.KernelIdeal.main_arg0), m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7), m ((c.tc : Thread Cert.KernelIdeal.nD Cert.KernelIdeal.τ).loc Cert.KernelIdeal.main_arg8), m ((c.tc : Thread Cert.KernelIdeal.nD Cert.KernelIdeal.τ).loc Cert.KernelIdeal.main_arg9), m ((c.tc : Thread Cert.KernelIdeal.nD Cert.KernelIdeal.τ).loc Cert.KernelIdeal.main_arg10), m ((c.tc : Thread Cert.KernelIdeal.nD Cert.KernelIdeal.τ).loc Cert.KernelIdeal.main_arg11), m ((c.tc : Thread Cert.KernelIdeal.nD Cert.KernelIdeal.τ).loc Cert.KernelIdeal.main_arg12), m ((c.tc : Thread Cert.KernelIdeal.nD Cert.KernelIdeal.τ).loc Cert.KernelIdeal.main_arg13), m ((c.tc : Thread Cert.KernelIdeal.nD Cert.KernelIdeal.τ).loc Cert.KernelIdeal.main_arg14), m ((c.tc : Thread Cert.KernelIdeal.nD Cert.KernelIdeal.τ).loc Cert.KernelIdeal.main_arg15), m ((c.tc : Thread Cert.KernelIdeal.nD Cert.KernelIdeal.τ).loc Cert.KernelIdeal.main_arg16), m ((c.tc : Thread Cert.KernelIdeal.nD Cert.KernelIdeal.τ).loc Cert.KernelIdeal.main_arg17), m ((c.tc : Thread Cert.KernelIdeal.nD Cert.KernelIdeal.τ).loc Cert.KernelIdeal.main_arg18), m ((c.tc : Thread Cert.KernelIdeal.nD Cert.KernelIdeal.τ).loc Cert.KernelIdeal.main_arg19), m ((c.tc : Thread Cert.KernelIdeal.nD Cert.KernelIdeal.τ).loc Cert.KernelIdeal.main_arg20), m ((c.tc : Thread Cert.KernelIdeal.nD Cert.KernelIdeal.τ).loc Cert.KernelIdeal.main_arg21), m ((c.tc : Thread Cert.KernelIdeal.nD Cert.KernelIdeal.τ).loc Cert.KernelIdeal.main_arg22), m ((c.tc : Thread Cert.KernelIdeal.nD Cert.KernelIdeal.τ).loc Cert.KernelIdeal.main_arg23)⟩
  congr 1

/-- The two programs end with equal results. -/
theorem equal : Cert.algebraic_KernelIdeal_ReferenceIdeal_pre_codebooks_finite := by
  intro m g m' g' hpre hargs
  refine ⟨fun c => Cert.ReferenceIdeal.Whole.recon (Cert.KernelIdeal.Val.launchArgs m c), fun c => Cert.ReferenceIdeal.Whole.enc (Cert.KernelIdeal.Val.launchArgs m c), fun c => Cert.ReferenceIdeal.Whole.rest1 (Cert.KernelIdeal.Val.launchArgs m c), fun c => Cert.ReferenceIdeal.Whole.rest2 (Cert.KernelIdeal.Val.launchArgs m c), fun c => Cert.ReferenceIdeal.Whole.rest3 (Cert.KernelIdeal.Val.launchArgs m c), fun c => Cert.ReferenceIdeal.Whole.pick0 (Cert.KernelIdeal.Val.launchArgs m c), fun c => Cert.ReferenceIdeal.Whole.pick1 (Cert.KernelIdeal.Val.launchArgs m c), fun c => Cert.ReferenceIdeal.Whole.pick2 (Cert.KernelIdeal.Val.launchArgs m c), fun c => Cert.ReferenceIdeal.Whole.pick3 (Cert.KernelIdeal.Val.launchArgs m c), ?_, ?_⟩
  · refine (θ_run Cert.KernelIdeal.defs _ _).mono (fun r h c => ?_) (θ_run_and (Cert.KernelIdeal.Val.unchanged m g) (Cert.KernelIdeal.Val.run_all m g))
    exact ⟨(Cert.KernelIdeal.Val.result_0 m r h.2.1 c).trans (Cert.KernelIdeal.Val.final_0 m c (finite m hpre c)), (Cert.KernelIdeal.Val.result_1 m r h.2.1 c).trans (Cert.KernelIdeal.Val.final_1 m c), (Cert.KernelIdeal.Val.result_2 m r h.2.1 c).trans (Cert.KernelIdeal.Val.final_2 m c (finite m hpre c)), (Cert.KernelIdeal.Val.result_3 m r h.2.1 c).trans (Cert.KernelIdeal.Val.final_3 m c (finite m hpre c)), (Cert.KernelIdeal.Val.result_4 m r h.2.1 c).trans (Cert.KernelIdeal.Val.final_4 m c (finite m hpre c)), (Cert.KernelIdeal.Val.result_5 m r h.2.1 c).trans (Cert.KernelIdeal.Val.final_5 m c (finite m hpre c)), (Cert.KernelIdeal.Val.result_6 m r h.2.1 c).trans (Cert.KernelIdeal.Val.final_6 m c (finite m hpre c)), (Cert.KernelIdeal.Val.result_7 m r h.2.1 c).trans (Cert.KernelIdeal.Val.final_7 m c (finite m hpre c)), (Cert.KernelIdeal.Val.result_8 m r h.2.1 c).trans (Cert.KernelIdeal.Val.final_8 m c (finite m hpre c)), h.1 c⟩
  · refine (θ_run Cert.ReferenceIdeal.defs _ _).mono (fun r h c => ?_) (Cert.ReferenceIdeal.Run.run (F := Ideal) m' g')
    obtain ⟨h0, h1, h2, h3, h4, h5, h6, h7, h8, h9, h10, h11, h12, h13, h14, h15, h16, h17, h18, h19, h20, h21, h22, h23⟩ := hargs c
    obtain ⟨⟨b0, b1, b2, b3, b4, b5, b6, b7, b8⟩, ha⟩ := h c
    have e := args_eq m m' c h0 h1 h2 h3 h4 h5 h6 h7 h8 h9 h10 h11 h12 h13 h14 h15 h16 h17 h18 h19 h20 h21 h22 h23
    exact ⟨b0.trans (congrArg Cert.ReferenceIdeal.Whole.recon e), b1.trans (congrArg Cert.ReferenceIdeal.Whole.enc e), b2.trans (congrArg Cert.ReferenceIdeal.Whole.rest1 e), b3.trans (congrArg Cert.ReferenceIdeal.Whole.rest2 e), b4.trans (congrArg Cert.ReferenceIdeal.Whole.rest3 e), b5.trans (congrArg Cert.ReferenceIdeal.Whole.pick0 e), b6.trans (congrArg Cert.ReferenceIdeal.Whole.pick1 e), b7.trans (congrArg Cert.ReferenceIdeal.Whole.pick2 e), b8.trans (congrArg Cert.ReferenceIdeal.Whole.pick3 e), ha⟩

/-- Everything the certificate claims. -/
theorem claim : Cert.Claim := ⟨Cert.Kernel.Gen.facts, Cert.KernelIdeal.Gen.facts, Cert.ReferenceIdeal.Gen.facts, Cert.Pre_codebooks_finite.facts,
  frame_kernel, frame_ideal, frame_ideal_pre, frame_reference, frame_reference_pre, kept, equal⟩

end Cert.Proof

end
